-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x4096x64 : Shape := ⟨3, ![16, 4096, 64]⟩
abbrev S8x64x64 : Shape := ⟨3, ![8, 64, 64]⟩
abbrev S8x64 : Shape := ⟨2, ![8, 64]⟩
abbrev S64x8 : Shape := ⟨2, ![64, 8]⟩
abbrev S8 : Shape := ⟨1, ![8]⟩
abbrev S_ : Shape := ⟨0, ![]⟩

class Facts : Prop where
  bcast_S_S16x4096x64 : S_.BroadcastsInDim S16x4096x64 (![] : Fin 0 → Fin S16x4096x64.rank)
  bcast_S_S8x64x64 : S_.BroadcastsInDim S8x64x64 (![] : Fin 0 → Fin S8x64x64.rank)
  bcast_S_S64x8 : S_.BroadcastsInDim S64x8 (![] : Fin 0 → Fin S64x8.rank)
  bcast_S_S8 : S_.BroadcastsInDim S8 (![] : Fin 0 → Fin S8.rank)

variable [Facts]

def fn {F : FTy → Type} [FloatOps F] (main_arg0 : FVec F S16x4096x64 .f32) (main_arg1 : FVec F S8x64x64 .f32) (main_arg2 : FVec F S8x64 .f32) (main_arg3 : FVec F S64x8 .f32) (main_arg4 : FVec F S8 .f32) : IVec S16x4096x64 1 × IVec S8x64x64 1 × IVec S64x8 1 × IVec S8 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_v3 : FVec F S8x64x64 .f32 := Host.absf main_arg1
  let main_cst_0 : FVec F S_ .f32 := constant S_ .f32 0x7F800000#32
  let main_v4 : FVec F S8x64x64 .f32 := broadcastInDim S8x64x64 ![] bcast_S_S8x64x64 main_cst_0
  let main_v5 : IVec S8x64x64 1 := cmpf .olt main_v3 main_v4
  let main_v6 : FVec F S64x8 .f32 := Host.absf main_arg3
  let main_cst_1 : FVec F S_ .f32 := constant S_ .f32 0x7F800000#32
  let main_v7 : FVec F S64x8 .f32 := broadcastInDim S64x8 ![] bcast_S_S64x8 main_cst_1
  let main_v8 : IVec S64x8 1 := cmpf .olt main_v6 main_v7
  let main_v9 : FVec F S8 .f32 := Host.absf main_arg4
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S16x4096x64 : Shape := ⟨3, ![16, 4096, 64]⟩
abbrev S8x64x64 : Shape := ⟨3, ![8, 64, 64]⟩
abbrev S8x64 : Shape := ⟨2, ![8, 64]⟩
abbrev S64x8 : Shape := ⟨2, ![64, 8]⟩
abbrev S8 : Shape := ⟨1, ![8]⟩
abbrev S16x64x4096 : Shape := ⟨3, ![16, 64, 4096]⟩
abbrev S8x1 : Shape := ⟨2, ![8, 1]⟩
abbrev S6x64x4096 : Shape := ⟨3, ![6, 64, 4096]⟩
abbrev S3x64x4096 : Shape := ⟨3, ![3, 64, 4096]⟩
abbrev S6 : Shape := ⟨1, ![6]⟩
abbrev S3 : Shape := ⟨1, ![3]⟩
abbrev S1 : Shape := ⟨1, ![1]⟩
abbrev S_ : Shape := ⟨0, ![]⟩
abbrev S1x64x4096 : Shape := ⟨3, ![1, 64, 4096]⟩
abbrev S64x4096 : Shape := ⟨2, ![64, 4096]⟩
abbrev S64 : Shape := ⟨1, ![64]⟩
abbrev S64x1 : Shape := ⟨2, ![64, 1]⟩
abbrev S1x1 : Shape := ⟨2, ![1, 1]⟩
abbrev S64x64 : Shape := ⟨2, ![64, 64]⟩
abbrev S1x64x64 : Shape := ⟨3, ![1, 64, 64]⟩

abbrev nBuf : Space → Nat
  | .hbm => 10
  | .vmem => 6
  | .smem => 0
  | _ => 0

abbrev bufTy : (tb : Table) → Fin (tcTables nBuf tb) → BufTy
  | .hbm, ⟨0, _⟩ => ⟨S16x4096x64, .f32⟩
  | .hbm, ⟨1, _⟩ => ⟨S8x64x64, .f32⟩
  | .hbm, ⟨2, _⟩ => ⟨S8x64, .f32⟩
  | .hbm, ⟨3, _⟩ => ⟨S64x8, .f32⟩
  | .hbm, ⟨4, _⟩ => ⟨S8, .f32⟩
  | .hbm, ⟨5, _⟩ => ⟨S16x64x4096, .f32⟩
  | .hbm, ⟨6, _⟩ => ⟨S64x8, .f32⟩
  | .hbm, ⟨7, _⟩ => ⟨S8x1, .f32⟩
  | .hbm, ⟨8, _⟩ => ⟨S16x64x4096, .f32⟩
  | .hbm, ⟨9, _⟩ => ⟨S16x4096x64, .f32⟩
  | .local _ .vmem, ⟨0, _⟩ => ⟨S8x64x64, .f32⟩
  | .local _ .vmem, ⟨1, _⟩ => ⟨S64x8, .f32⟩
  | .local _ .vmem, ⟨2, _⟩ => ⟨S64x8, .f32⟩
  | .local _ .vmem, ⟨3, _⟩ => ⟨S8x1, .f32⟩
  | .local _ .vmem, ⟨4, _⟩ => ⟨S6x64x4096, .f32⟩
  | .local _ .vmem, ⟨5, _⟩ => ⟨S3x64x4096, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x4096x64 : Shape := ⟨3, ![16, 4096, 64]⟩
abbrev S8x64x64 : Shape := ⟨3, ![8, 64, 64]⟩
abbrev S8x64 : Shape := ⟨2, ![8, 64]⟩
abbrev S64x8 : Shape := ⟨2, ![64, 8]⟩
abbrev S8 : Shape := ⟨1, ![8]⟩
abbrev S_ : Shape := ⟨0, ![]⟩
abbrev S16x64 : Shape := ⟨2, ![16, 64]⟩
abbrev S16x8 : Shape := ⟨2, ![16, 8]⟩
abbrev S1x8 : Shape := ⟨2, ![1, 8]⟩
abbrev S16x2 : Shape := ⟨2, ![16, 2]⟩
abbrev S16 : Shape := ⟨1, ![16]⟩
abbrev S16x1 : Shape := ⟨2, ![16, 1]⟩
abbrev S16x2x1 : Shape := ⟨3, ![16, 2, 1]⟩
abbrev S1x1x8 : Shape := ⟨3, ![1, 1, 8]⟩
abbrev S16x2x8 : Shape := ⟨3, ![16, 2, 8]⟩
abbrev S8x64x16x4096 : Shape := ⟨4, ![8, 64, 16, 4096]⟩
abbrev S16x4096x64x8 : Shape := ⟨4, ![16, 4096, 64, 8]⟩
abbrev S1x1x64x8 : Shape := ⟨4, ![1, 1, 64, 8]⟩
abbrev S16x1x1x8 : Shape := ⟨4, ![16, 1, 1, 8]⟩

abbrev nBuf : Space → Nat
  | .hbm => 53
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S8x64x64, .f32⟩
  | .hbm, ⟨2, _⟩ => ⟨S8x64, .f32⟩
  | .hbm, ⟨3, _⟩ => ⟨S64x8, .f32⟩
  | .hbm, ⟨4, _⟩ => ⟨S8, .f32⟩
  | .hbm, ⟨5, _⟩ => ⟨S_, .f32⟩
  | .hbm, ⟨6, _⟩ => ⟨S16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16x8, .f32⟩
  | .hbm, ⟨11, _⟩ => ⟨S1x8, .f32⟩
  | .hbm, ⟨12, _⟩ => ⟨S16x8, .f32⟩
  | .hbm, ⟨13, _⟩ => ⟨S16x8, .f32⟩
  | .hbm, ⟨14, _⟩ => ⟨S16x2, .f32⟩
  | .hbm, ⟨15, _⟩ => ⟨S16x2, .i32⟩
  | .hbm, ⟨16, _⟩ => ⟨S_, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16x1, .f32⟩
  | .hbm, ⟨22, _⟩ => ⟨S16x2, .f32⟩
  | .hbm, ⟨23, _⟩ => ⟨S16x2, .f32⟩
  | .hbm, ⟨24, _⟩ => ⟨S16x2, .f32⟩
  | .hbm, ⟨25, _⟩ => ⟨S_, .f32⟩
  | .hbm, ⟨26, _⟩ => ⟨S16, .f32⟩
  | .hbm, ⟨27, _⟩ => ⟨S16x1, .f32⟩
  | .hbm, ⟨28, _⟩ => ⟨S16x2, .f32⟩
  | .hbm, ⟨29, _⟩ => ⟨S16x2, .f32⟩
  | .hbm, ⟨30, _⟩ => ⟨S16x2x1, .i32⟩
  | .hbm, ⟨31, _⟩ => ⟨S1x1x8, .i32⟩
  | .hbm, ⟨32, _⟩ => ⟨S16x2x8, .i32⟩
  | .hbm, ⟨33, _⟩ => ⟨S16x2x8, .i32⟩
  | .hbm, ⟨34, _⟩ => ⟨S16x2x8, .i1⟩
  | .hbm, ⟨35, _⟩ => ⟨S16x2x8, .f32⟩
  | .hbm, ⟨36, _⟩ => ⟨S16x2x1, .f32⟩
  | .hbm, ⟨37, _⟩ => ⟨S16x2x8, .f32⟩
  | .hbm, ⟨38, _⟩ => ⟨S16x2x8, .f32⟩
  | .hbm, ⟨39, _⟩ => ⟨S_, .f32⟩
  | .hbm, ⟨40, _⟩ => ⟨S16x8, .f32⟩
  | .hbm, ⟨41, _⟩ => ⟨S8x64x16x4096, .f32⟩
  | .hbm, ⟨42, _⟩ => ⟨S16x4096x64x8, .f32⟩
  | .hbm, ⟨43, _⟩ => ⟨S64x8, .f32⟩
  | .hbm, ⟨44, _⟩ => ⟨S1x1x64x8, .f32⟩
  | .hbm, ⟨45, _⟩ => ⟨S16x4096x64x8, .f32⟩
  | .hbm, ⟨46, _⟩ => ⟨S16x4096x64x8, .f32⟩
  | .hbm, ⟨47, _⟩ => ⟨S16x1x1x8, .f32⟩
  | .hbm, ⟨48, _⟩ => ⟨S16x4096x64x8, .f32⟩
  | .hbm, ⟨49, _⟩ => ⟨S16x4096x64x8, .f32⟩
  | .hbm, ⟨50, _⟩ => ⟨S_, .f32⟩
  | .hbm, ⟨51, _⟩ => ⟨S16x4096x64, .f32⟩
  | .hbm, ⟨52, _⟩ => ⟨S16x4096x64, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_values : Ref sig .tc := ⟨.hbm, 14, rfl⟩
abbrev main_indices : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proof.Run.lean ====
/- The kernel's body, run once: from the input in HBM, the result in HBM, the two rings at anything, the nine transfer
   cells at zero and the four staged operands, it ends with the cells at zero again and with the result at contents the
   run itself finds (`bodyRun`'s first component), everything else as it was. -/
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The contents of the buffer behind a memref on core `c`. -/
abbrev HbBuf (c : Dev nD) {sp : Space} {S : Shape} {e : EltTy} (M : Memref sig .tc sp S e) : Type := Buf (Elt F) (M.view.loc (c : Thread nD τ))
/-- The whole buffer behind a memref, held at `f`. -/
abbrev hbPt (c : Dev nD) {sp : Space} {S : Shape} {e : EltTy} (M : Memref sig .tc sp S e) (f : HbBuf (F := F) c M) : sProp 𝕄 :=
  M.view.loc (c : Thread nD τ) ↦{fullShare} f
/-- The input and the result in HBM, the input ring and the output ring. -/
abbrev A1 : Memref sig .tc .hbm S16x64x4096 .f32 := Memref.whole main_v0
abbrev A6 : Memref sig .tc .hbm S16x64x4096 .f32 := Memref.whole main_v3
abbrev A7 : Memref sig .tc .vmem S6x64x4096 .f32 := Memref.whole cc0_scratch0
abbrev A8 : Memref sig .tc .vmem S3x64x4096 .f32 := Memref.whole cc0_scratch1

/-- A staged operand, held at contents `x`. -/
abbrev stPt (c : Dev nD) {S : Shape} (M : Memref sig .tc .vmem S .f32) (h : M.IsWhole) (x : S.Idx → Elt F .f32) : sProp 𝕄 :=
  M.view.loc (c : Thread nD τ) ↦[M.view.set]{fullShare} h.unread x

/-- A transfer cell at zero. -/
abbrev semZ (c : Dev nD) (k : DmaSem sig) : sProp 𝕄 := semVal ((c : Thread nD τ), SemLoc.dma k) 0

set_option sl_exec.dmaWindow true in
set_option sl_exec.dmaWindowSet true in
set_option sl_exec.dmaWindowLent true in
/-- The body's run: the result it leaves, found by the run, and the triple that says so. -/
def bodyRun (c : Dev nD) (i : grid0.Coords) (arg2 : Memref sig .tc .vmem S8x64x64 .f32) (harg2 : arg2.IsWhole) (arg3 : Memref sig .tc .vmem S64x8 .f32) (harg3 : arg3.IsWhole) (arg4 : Memref sig .tc .vmem S64x8 .f32) (harg4 : arg4.IsWhole) (arg5 : Memref sig .tc .vmem S8x1 .f32) (harg5 : arg5.IsWhole)
   (f1 : HbBuf (F := F) c A1) (f6 : HbBuf (F := F) c A6) (f7 : HbBuf (F := F) c A7) (f8 : HbBuf (F := F) c A8)
   (x2 : S8x64x64.Idx → Elt F .f32) (x3 : S64x8.Idx → Elt F .f32) (x4 : S64x8.Idx → Elt F .f32) (x5 : S8x1.Idx → Elt F .f32) :
   { g6 : HbBuf (F := F) c A6 // ∀ (W : Waits sig Unit) (K : PUnit → sProp 𝕄),
   iprop(hbPt c A1 f1 ∗ hbPt c A6 f6 ∗ hbPt c A7 f7 ∗ hbPt c A8 f8
     ∗ semZ c 4 ∗ semZ c 5 ∗ semZ c 6 ∗ semZ c 7 ∗ semZ c 8 ∗ semZ c 9 ∗ semZ c 10 ∗ semZ c 11 ∗ semZ c 12
     ∗ stPt c arg2 harg2 x2 ∗ stPt c arg3 harg3 x3 ∗ stPt c arg4 harg4 x4 ∗ stPt c arg5 harg5 x5
     ∗ owes (c : Thread nD τ) 0 W
     ∗ (iprop(hbPt c A1 f1 ∗ hbPt c A6 g6 ∗ (∃ f, hbPt c A7 f) ∗ (∃ f, hbPt c A8 f)
         ∗ semZ c 4 ∗ semZ c 5 ∗ semZ c 6 ∗ semZ c 7 ∗ semZ c 8 ∗ semZ c 9 ∗ semZ c 10 ∗ semZ c 11 ∗ semZ c 12
         ∗ stPt c arg2 harg2 x2 ∗ stPt c arg3 harg3 x3 ∗ stPt c arg4 harg4 x4 ∗ stPt c arg5 harg5 x5
         ∗ ∃ W', owes (c : Thread nD τ) 0 W') -∗ K ⟨⟩))
   ⊢ wp frame (wpE (defs₀ (F := F)) Variants.none c none) Set.univ
     (cc0__body i A1 (Memref.isWhole_whole _) arg2 harg2 arg3 harg3 arg4 harg4 arg5 harg5 A6 (Memref.isWhole_whole _) A7 (Memref.isWhole_whole _) A8 (Memref.isWhole_whole _) cc0_scratch2 cc0_scratch3) K } := by
  refine ⟨?_, fun W K => ?run⟩
  case run =>
    iintro ⟨H1, H6, H7, H8, Q4, Q5, Q6, Q7, Q8, Q9, Q10, Q11, Q12, G2, G3, G4, G5, HW, Hk⟩
    simp only [cc0__body_eq_skeleton]; unfold cc0__body_skel
    simp only [k0_part97_eq_skeleton, k0_part98_eq_skeleton]; unfold k0_part97_skel k0_part98_skel
    sl_exec
    sl_step
    iapply Hk
    isplitl [H1]; · iexact H1
    isplitl [H6]; · iexact H6
    isplitl [H7]; · iexists _; iexact H7
    isplitl [H8]; · iexists _; iexact H8
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [G2]; · iexact G2
    isplitl [G3]; · iexact G3
    isplitl [G4]; · iexact G4
    isplitl [G5]; · iexact G5
    iexists _; iexact HW

end Cert.KernelIdeal.Hand

end
-- ==== Proof.Block.lean ====
/- What the kernel computes for one batch element, as a function of the batch element's matrix (channels by positions) and of
    the weights it loads. -/
module

public import proofs.«01_k».proof.Proof.Gen.KernelIdeal

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The loaded block as a matrix: 64 channels by 4096 positions. -/
def uMat (v : Vec F S1x64x4096 .f32) : FVec F S64x4096 .f32 :=
  shapeCast S64x4096 v shapeCasts_S1x64x4096_S64x4096

/-- The router's eight logits: the channels' means through the router's weights, plus its bias. -/
def logitV (v : Vec F S1x64x4096 .f32) (wr : Vec F S64x8 .f32) (br : Vec F S8x1 .f32) : FVec F S8x1 .f32 :=
  addf (matmul dot_S64x8_S64x1_S8x1_0_0_1_1_n_n none wr
      (mulf (shapeCast S64x1 (multiReduction .add [1] S64 (uMat v) 0x00000000#32 reduces_S64x4096_S64 (.inl rfl) rfl) shapeCasts_S64_S64x1)
        (broadcast S64x1 (Scalar.ofBits .f32 0x39800000#32)))
      (constant S8x1 .f32 0x00000000#32))
    (shapeCast S8x1 br shapeCasts_S8x1_S8x1)

/-- The largest entry of a column of eight. -/
def maxV (l : FVec F S8x1 .f32) : FVec F S1x1 .f32 :=
  shapeCast S1x1 (multiReduction .maximumf [0] S1 l 0xFF800000#32 reduces_S8x1_S1 (.inl rfl) rfl) shapeCasts_S1_S1x1

/-- The column 0, 1, …, 7. -/
def iotaV : IVec S8x1 32 := iota .tc S8x1 32 [0] iota_S8x1_d0_w32

/-- The first place of the largest entry. -/
def argV (l : FVec F S8x1 .f32) : IVec S1x1 32 :=
  shapeCast S1x1 (multiReductionI .minsi [0] S1
    (select (cmpf .oeq l (broadcastTo S8x1 (maxV l) broadcasts_S1x1_S8x1)) iotaV (broadcast S8x1 8#32))
    2147483647#32 reduces_S8x1_S1 rfl) shapeCasts_S1_S1x1

/-- The logits with the first largest one replaced by minus infinity. -/
def maskV (l : FVec F S8x1 .f32) : FVec F S8x1 .f32 :=
  select (cmpi .eq iotaV (broadcastTo S8x1 (argV l) broadcasts_S1x1_S8x1)) (broadcast S8x1 (Scalar.ofBits .f32 0xFF800000#32)) l

/-- `exp (m₂ - m₁)` of the two largest logits. -/
def expV (l : FVec F S8x1 .f32) : FVec F S1x1 .f32 := exp (subf (maxV (maskV l)) (maxV l))

/-- The weight of the largest logit. -/
def firstV (l : FVec F S8x1 .f32) : FVec F S1x1 .f32 :=
  divf (broadcast S1x1 (Scalar.ofBits .f32 0x3F800000#32)) (addf (broadcast S1x1 (Scalar.ofBits .f32 0x3F800000#32)) (expV l))

/-- The weight of the second largest. -/
def secondV (l : FVec F S8x1 .f32) : FVec F S1x1 .f32 :=
  divf (expV l) (addf (broadcast S1x1 (Scalar.ofBits .f32 0x3F800000#32)) (expV l))

/-- Primitive `p`'s weight. -/
def gateV (l : FVec F S8x1 .f32) (p : ℕ) : FVec F S1x1 .f32 :=
  addf (select (cmpi .eq (argV l) (broadcast S1x1 (BitVec.ofNat 32 p))) (firstV l) (broadcast S1x1 (Scalar.ofBits .f32 0x00000000#32)))
    (select (cmpi .eq (argV (maskV l)) (broadcast S1x1 (BitVec.ofNat 32 p))) (secondV l) (broadcast S1x1 (Scalar.ofBits .f32 0x00000000#32)))

/-- The identity matrix. -/
def eyeV : FVec F S64x64 .f32 :=
  sitofp .f32 (extui 32 (cmpi .eq (addi (iota .tc S64x64 32 [0] iota_S64x64_d0_w32) (broadcast S64x64 0#32))
    (iota .tc S64x64 32 [1] iota_S64x64_d1_w32)) natLt_1_32)

/-- The identity plus the first `n` primitives' matrices, weighted. -/
def accW (l : FVec F S8x1 .f32) (W : ℕ → Vec F S1x64x64 .f32) : ℕ → FVec F S64x64 .f32
  | 0 => eyeV
  | n + 1 => addf (accW l W n) (mulf (broadcastTo S64x64 (gateV l n) broadcasts_S1x1_S64x64) (shapeCast S64x64 (W n) shapeCasts_S1x64x64_S64x64))

/-- The first `n` primitives' biases, weighted and summed. -/
def accB (l : FVec F S8x1 .f32) (B : ℕ → Vec F S64x1 .f32) : ℕ → FVec F S64x1 .f32
  | 0 => broadcast S64x1 (Scalar.ofBits .f32 0x00000000#32)
  | n + 1 => addf (accB l B n) (mulf (broadcastTo S64x1 (gateV l n) broadcasts_S1x1_S64x1) (shapeCast S64x1 (B n) shapeCasts_S64x1_S64x1))

/-- The block the kernel stores for one batch element. -/
def blkOut (v : Vec F S1x64x4096 .f32) (wr : Vec F S64x8 .f32) (br : Vec F S8x1 .f32) (W : ℕ → Vec F S1x64x64 .f32) (B : ℕ → Vec F S64x1 .f32) :
    FVec F S1x64x4096 .f32 :=
  shapeCast S1x64x4096
    (addf (matmul dot_S64x64_S64x4096_S64x4096_0_0_1_1_n_n none (accW (logitV v wr br) W 8) (uMat v) (constant S64x4096 .f32 0x00000000#32))
      (broadcastTo S64x4096 (accB (logitV v wr br) B 8) broadcasts_S64x1_S64x4096))
    shapeCasts_S64x4096_S1x64x4096

end Cert.KernelIdeal.Hand

end
-- ==== Proof.Ring.lean ====
/- The kernel's transfers as a recursion over the batch elements: what the two rings and the result hold after the first `n` of
    them, and that the run of the body ends in that recursion's sixteenth state. -/
module

public import proofs.«01_k».proof.Proof.Run
public import proofs.«01_k».proof.Proof.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- Block `n` of the sixteen. -/
theorem inb16 (n : ℕ) : ∀ a, (![n % 16, 0, 0] : Fin 3 → ℕ) a + S1x64x4096.size a ≤ S16x64x4096.size a := by
  intro a; have := Nat.mod_lt n (show 16 > 0 by decide); fin_cases a <;> simp <;> omega
theorem inb6 (n : ℕ) : ∀ a, (![n % 6, 0, 0] : Fin 3 → ℕ) a + S1x64x4096.size a ≤ S6x64x4096.size a := by
  intro a; have := Nat.mod_lt n (show 6 > 0 by decide); fin_cases a <;> simp <;> omega
theorem inb3 (n : ℕ) : ∀ a, (![n % 3, 0, 0] : Fin 3 → ℕ) a + S1x64x4096.size a ≤ S3x64x4096.size a := by
  intro a; have := Nat.mod_lt n (show 3 > 0 by decide); fin_cases a <;> simp <;> omega
theorem inbW (n : ℕ) : ∀ a, (![n % 8, 0, 0] : Fin 3 → ℕ) a + S1x64x64.size a ≤ S8x64x64.size a := by
  intro a; have := Nat.mod_lt n (show 8 > 0 by decide); fin_cases a <;> simp <;> omega
theorem inbB (n : ℕ) : ∀ a, (![0, n % 8] : Fin 2 → ℕ) a + S64x1.size a ≤ S64x8.size a := by
  intro a; have := Nat.mod_lt n (show 8 > 0 by decide); fin_cases a <;> simp <;> omega

abbrev blk1 (n : ℕ) := (A1.slice (Rect.unit ![n % 16, 0, 0] S1x64x4096.size (inb16 n)) (fun _ => rfl)).squeeze S64x4096 squeezes_S1x64x4096_S64x4096
abbrev blk6 (n : ℕ) := (A6.slice (Rect.unit ![n % 16, 0, 0] S1x64x4096.size (inb16 n)) (fun _ => rfl)).squeeze S64x4096 squeezes_S1x64x4096_S64x4096
abbrev slot7 (n : ℕ) := (A7.slice (Rect.unit ![n % 6, 0, 0] S1x64x4096.size (inb6 n)) (fun _ => rfl)).squeeze S64x4096 squeezes_S1x64x4096_S64x4096
abbrev slot8 (n : ℕ) := (A8.slice (Rect.unit ![n % 3, 0, 0] S1x64x4096.size (inb3 n)) (fun _ => rfl)).squeeze S64x4096 squeezes_S1x64x4096_S64x4096

section
variable (c : Dev nD) (arg2 : Memref sig .tc .vmem S8x64x64 .f32) (harg2 : arg2.IsWhole) (arg3 : Memref sig .tc .vmem S64x8 .f32) (harg3 : arg3.IsWhole) (arg4 : Memref sig .tc .vmem S64x8 .f32) (harg4 : arg4.IsWhole) (arg5 : Memref sig .tc .vmem S8x1 .f32) (harg5 : arg5.IsWhole)
   (f1 : HbBuf (F := F) c A1) (f6 : HbBuf (F := F) c A6) (f7 : HbBuf (F := F) c A7) (f8 : HbBuf (F := F) c A8)
   (x2 : S8x64x64.Idx → Elt F .f32) (x3 : S64x8.Idx → Elt F .f32) (x4 : S64x8.Idx → Elt F .f32) (x5 : S8x1.Idx → Elt F .f32)

/-- The input ring after the first `n` loads landed. -/
def ringIn : ℕ → HbBuf (F := F) c A7
  | 0 => f7
  | n + 1 => View.write (Elt F) (slot7 n).view (ringIn n) (ReadAs.same.apply (View.read (Elt F) (blk1 n).view f1)) Finset.univ

/-- What iteration `n` loads of the input ring, the transfers up to four ahead having landed. -/
def loadIn (n : ℕ) : Vec F S1x64x4096 .f32 :=
  View.readAt (Elt F) A7.view (Rect.unit (s := S6x64x4096) ![n % 6, 0, 0] S1x64x4096.size (inb6 n)).toLoadRect (ringIn c f1 f7 (min (n + 5) 16))

/-- What iteration `n` stores. -/
def stored (n : ℕ) : FVec F S1x64x4096 .f32 :=
  blkOut (loadIn c f1 f7 n)
    (View.readAt (Elt F) arg4.view (Rect.unit ![0, 0] S64x8.size inb_S64x8_S64x8_0_0).toLoadRect (harg4.unread x4))
    (View.readAt (Elt F) arg5.view (Rect.unit ![0, 0] S8x1.size inb_S8x1_S8x1_0_0).toLoadRect (harg5.unread x5))
    (fun p => View.readAt (Elt F) arg2.view (Rect.unit (s := S8x64x64) ![p % 8, 0, 0] S1x64x64.size (inbW p)).toLoadRect (harg2.unread x2))
    (fun p => View.readAt (Elt F) arg3.view (Rect.unit (s := S64x8) ![0, p % 8] S64x1.size (inbB p)).toLoadRect (harg3.unread x3))

/-- The stores into the output ring, newest first, after `n` iterations. -/
def storesOut : ℕ → List (View.Piece (Elt F) S3x64x4096 .f32)
  | 0 => []
  | n + 1 => ⟨Rect.unit (s := S3x64x4096) ![n % 3, 0, 0] S1x64x4096.size (inb3 n), stored c arg2 harg2 arg3 harg3 arg4 harg4 arg5 harg5 f1 f7 x2 x3 x4 x5 n⟩ :: storesOut n

/-- The result after the first `n` blocks were copied out. -/
def resultOut : ℕ → HbBuf (F := F) c A6
  | 0 => f6
  | n + 1 => View.write (Elt F) (blk6 n).view (resultOut n)
      (ReadAs.same.apply (View.read (Elt F) (slot8 n).view
        (A8.view.writes (Elt F) f8 (storesOut c arg2 harg2 arg3 harg3 arg4 harg4 arg5 harg5 f1 f7 x2 x3 x4 x5 (n + 1))))) Finset.univ

/-- The run's result is the recursion's. -/
theorem bodyRun_eq (i : grid0.Coords) :
    (bodyRun c i arg2 harg2 arg3 harg3 arg4 harg4 arg5 harg5 f1 f6 f7 f8 x2 x3 x4 x5).1
      = resultOut c arg2 harg2 arg3 harg3 arg4 harg4 arg5 harg5 f1 f6 f7 f8 x2 x3 x4 x5 16 := by sl_kernel_rfl
end

end Cert.KernelIdeal.Hand

end
-- ==== Proof.RingVal.lean ====
/- What the recursion of the transfers leaves: block `b` of the result is the block function at block `b` of the input,
    whatever the rings held before. -/
module

public import proofs.«01_k».proof.Proof.Ring
public import Idealize.ShloMosaic.Lib.WholeRead
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section Slots
variable {sp : Space} {N : ℕ} (M : Memref sig .tc sp ⟨3, ![N, 64, 4096]⟩ .f32)

/-- Plane `k` of an array of `N` planes. -/
abbrev planeOf (k : ℕ) (h : ∀ a, (![k, 0, 0] : Fin 3 → ℕ) a + S1x64x4096.size a ≤ (⟨3, ![N, 64, 4096]⟩ : Shape).size a) :=
  (M.slice (Rect.unit (s := ⟨3, ![N, 64, 4096]⟩) ![k, 0, 0] S1x64x4096.size h) (fun _ => rfl)).squeeze S64x4096 squeezes_S1x64x4096_S64x4096

/-- Planes apart: writing one leaves what another reads. -/
theorem read_plane_write_ne {k k' : ℕ} (h) (h') (hne : k ≠ k') (f : M.view.ty.Contents (Elt F)) (w : S64x4096.Idx → Elt F .f32) :
    View.read (Elt F) (planeOf M k h).view (View.write (Elt F) (planeOf M k' h').view f w Finset.univ)
      = View.read (Elt F) (planeOf M k h).view f := by
  funext x
  rw [View.read_apply, View.read_apply]
  congr 1
  refine View.write_of_not_mem (v := (planeOf M k' h').view) f w Finset.univ ?_
  intro hm
  obtain ⟨y, -, hy⟩ := Finset.mem_map.mp hm
  have he : (Rect.unit (s := ⟨3, ![N, 64, 4096]⟩) ![k', 0, 0] S1x64x4096.size h').emb (Shape.reshapeEquiv squeezes_S1x64x4096_S64x4096.numel_eq y)
      = (Rect.unit (s := ⟨3, ![N, 64, 4096]⟩) ![k, 0, 0] S1x64x4096.size h).emb (Shape.reshapeEquiv squeezes_S1x64x4096_S64x4096.numel_eq x) :=
    M.view.emb.injective hy
  have h0 := congrArg (fun i : (⟨3, ![N, 64, 4096]⟩ : Shape).Idx => (i 0 : ℕ)) he
  have e1 : ∀ z : S1x64x4096.Idx, (z 0 : ℕ) = 0 := fun z => by have := (z 0).isLt; simpa using this
  simp only [Rect.emb_apply] at h0
  rw [e1, e1] at h0
  exact hne (by simpa using h0.symm)

/-- A load at plane `k` reads what the plane's view reads. -/
theorem readAt_plane (k : ℕ) (h) (f : M.view.ty.Contents (Elt F)) (z : S1x64x4096.Idx) :
    View.readAt (Elt F) M.view (Rect.unit (s := ⟨3, ![N, 64, 4096]⟩) ![k, 0, 0] S1x64x4096.size h).toLoadRect f z
      = View.read (Elt F) (planeOf M k h).view f ((Shape.reshapeEquiv squeezes_S1x64x4096_S64x4096.numel_eq).symm z) := by
  show M.view.read (Elt F) f ((Rect.unit (s := ⟨3, ![N, 64, 4096]⟩) ![k, 0, 0] S1x64x4096.size h).emb z) =
    M.view.read (Elt F) f ((Rect.unit (s := ⟨3, ![N, 64, 4096]⟩) ![k, 0, 0] S1x64x4096.size h).emb (Shape.reshapeEquiv _ ((Shape.reshapeEquiv _).symm z)))
  rw [Equiv.apply_symm_apply]
end Slots

/-- Where a plane's index lies in its array. -/
theorem emb_plane {N : ℕ} (k : ℕ) (h : ∀ a, (![k, 0, 0] : Fin 3 → ℕ) a + S1x64x4096.size a ≤ (⟨3, ![N, 64, 4096]⟩ : Shape).size a) (hk : k < N) (z : S1x64x4096.Idx) :
    (Rect.unit (s := ⟨3, ![N, 64, 4096]⟩) ![k, 0, 0] S1x64x4096.size h).emb z = ix3 (⟨k, hk⟩ : Fin N) (z 1) (z 2) := by
  have e1 : (z 0 : ℕ) = 0 := by have := (z 0).isLt; simpa using this
  funext a
  apply Fin.ext
  fin_cases a
  · simp [Rect.emb_apply, e1, ix3]
  · simp [Rect.emb_apply, ix3]
  · simp [Rect.emb_apply, ix3]

/-- Block `n` of the transposed input, as loaded. -/
def inBlk (f1 : S16x64x4096.Idx → Elt F .f32) (b : Fin 16) : Vec F S1x64x4096 .f32 := fun z => f1 (ix3 b (z 1) (z 2))
/-- Primitive `p`'s matrix, as loaded. -/
def matBlk (x2 : S8x64x64.Idx → Elt F .f32) (p : ℕ) : Vec F S1x64x64 .f32 :=
  fun z => x2 (ix3 (⟨p % 8, Nat.mod_lt _ (by decide)⟩ : Fin 8) (z 1) (z 2))
/-- Primitive `p`'s bias, as loaded. -/
def biasBlk (x3 : S64x8.Idx → Elt F .f32) (p : ℕ) : Vec F S64x1 .f32 :=
  fun z => x3 (ix2 (z 0) (⟨p % 8, Nat.mod_lt _ (by decide)⟩ : Fin 8))

/-- The kernel's array: at every batch element the block function of that batch element's matrix. -/
def kernelArr (f1 : S16x64x4096.Idx → Elt F .f32) (x2 : S8x64x64.Idx → Elt F .f32) (x3 : S64x8.Idx → Elt F .f32)
    (x4 : S64x8.Idx → Elt F .f32) (x5 : S8x1.Idx → Elt F .f32) : S16x64x4096.Idx → Elt F .f32 :=
  fun y => blkOut (inBlk f1 (y 0)) x4 x5 (matBlk x2) (biasBlk x3) (ix3 (0 : Fin 1) (y 1) (y 2))

section
variable (c : Dev nD) (arg2 : Memref sig .tc .vmem S8x64x64 .f32) (harg2 : arg2.IsWhole) (arg3 : Memref sig .tc .vmem S64x8 .f32) (harg3 : arg3.IsWhole) (arg4 : Memref sig .tc .vmem S64x8 .f32) (harg4 : arg4.IsWhole) (arg5 : Memref sig .tc .vmem S8x1 .f32) (harg5 : arg5.IsWhole)
   (f1 : HbBuf (F := F) c A1) (f6 : HbBuf (F := F) c A6) (f7 : HbBuf (F := F) c A7) (f8 : HbBuf (F := F) c A8)
   (x2 : S8x64x64.Idx → Elt F .f32) (x3 : S64x8.Idx → Elt F .f32) (x4 : S64x8.Idx → Elt F .f32) (x5 : S8x1.Idx → Elt F .f32)

/-- A landed block stays in its slot for the next five loads. -/
theorem ringIn_read (b : ℕ) : ∀ n, b < n → n ≤ b + 6 →
    View.read (Elt F) (slot7 b).view (ringIn c f1 f7 n) = View.read (Elt F) (blk1 b).view f1
  | 0, h, _ => absurd h (Nat.not_lt_zero b)
  | n + 1, h, h' => by
    rcases Nat.lt_or_ge b n with hb | hb
    · exact (read_plane_write_ne A7 (inb6 b) (inb6 n) (by omega) _ _).trans (ringIn_read b n hb (by omega))
    · obtain rfl : b = n := by omega
      exact View.read_write_univ _ _

theorem loadIn_eq (b : ℕ) (hb : b < 16) : loadIn c f1 f7 b = inBlk f1 ⟨b, hb⟩ := by
  funext z
  have hm : b % 16 = b := Nat.mod_eq_of_lt hb
  unfold loadIn
  rw [readAt_plane A7]
  refine (congrFun (ringIn_read c f1 f7 b (min (b + 5) 16) (by omega) (by omega)) _).trans ?_
  refine (readAt_plane A1 (b % 16) (inb16 b) f1 z).symm.trans ?_
  show f1 ((Rect.unit (s := ⟨3, ![16, 64, 4096]⟩) ![b % 16, 0, 0] S1x64x4096.size (inb16 b)).emb z) = _
  rw [emb_plane (b % 16) (inb16 b) (by omega)]
  simp only [hm]
  rfl

theorem stored_eq (b : ℕ) (hb : b < 16) :
    stored c arg2 harg2 arg3 harg3 arg4 harg4 arg5 harg5 f1 f7 x2 x3 x4 x5 b
      = blkOut (inBlk f1 ⟨b, hb⟩) x4 x5 (matBlk x2) (biasBlk x3) := by
  unfold stored
  rw [loadIn_eq c f1 f7 b hb]
  congr 1
  · funext z; rw [harg4.readAt_unread]; congr 1; funext a; apply Fin.ext; fin_cases a <;> simp [LoadRect.idx]
  · funext z; rw [harg5.readAt_unread]; congr 1; funext a; apply Fin.ext; fin_cases a <;> simp [LoadRect.idx]
  · funext p z
    rw [harg2.readAt_unread]; unfold matBlk; congr 1
    have e1 : (z 0 : ℕ) = 0 := by have := (z 0).isLt; simpa using this
    funext a; apply Fin.ext; fin_cases a <;> simp [LoadRect.idx, ix3, e1]
  · funext p z
    rw [harg3.readAt_unread]; unfold biasBlk; congr 1
    have e1 : (z 1 : ℕ) = 0 := by have := (z 1).isLt; simpa using this
    funext a; apply Fin.ext; fin_cases a <;> simp [LoadRect.idx, ix2, e1]

/-- A block copied out stays. -/
theorem resultOut_read (b : ℕ) : ∀ n, b < n → n ≤ 16 →
    View.read (Elt F) (blk6 b).view (resultOut c arg2 harg2 arg3 harg3 arg4 harg4 arg5 harg5 f1 f6 f7 f8 x2 x3 x4 x5 n)
      = View.read (Elt F) (slot8 b).view
        (A8.view.writes (Elt F) f8 (storesOut c arg2 harg2 arg3 harg3 arg4 harg4 arg5 harg5 f1 f7 x2 x3 x4 x5 (b + 1)))
  | 0, h, _ => absurd h (Nat.not_lt_zero b)
  | n + 1, h, h' => by
    rcases Nat.lt_or_ge b n with hb | hb
    · exact (read_plane_write_ne A6 (inb16 b) (inb16 n) (by omega) _ _).trans (resultOut_read b n hb (by omega))
    · obtain rfl : b = n := by omega
      exact View.read_write_univ _ _

/-- The result of the run at a batch element. -/
theorem resultOut_plane (b : ℕ) (hb : b < 16) (z : S1x64x4096.Idx) :
    View.readAt (Elt F) A6.view (Rect.unit (s := S16x64x4096) ![b % 16, 0, 0] S1x64x4096.size (inb16 b)).toLoadRect
        (resultOut c arg2 harg2 arg3 harg3 arg4 harg4 arg5 harg5 f1 f6 f7 f8 x2 x3 x4 x5 16) z
      = blkOut (inBlk f1 ⟨b, hb⟩) x4 x5 (matBlk x2) (biasBlk x3) z := by
  have hr := resultOut_read c arg2 harg2 arg3 harg3 arg4 harg4 arg5 harg5 f1 f6 f7 f8 x2 x3 x4 x5 b 16 hb le_rfl
  generalize resultOut c arg2 harg2 arg3 harg3 arg4 harg4 arg5 harg5 f1 f6 f7 f8 x2 x3 x4 x5 16 = R at hr ⊢
  unfold storesOut at hr
  rw [stored_eq _ _ _ _ _ _ _ _ _ _ _ _ _ _ _ _ hb] at hr
  generalize blkOut (inBlk f1 ⟨b, hb⟩) x4 x5 (matBlk x2) (biasBlk x3) = w at hr ⊢
  generalize storesOut c arg2 harg2 arg3 harg3 arg4 harg4 arg5 harg5 f1 f7 x2 x3 x4 x5 b = L at hr
  rw [readAt_plane A6, show View.read (Elt F) (planeOf A6 (b % 16) (inb16 b)).view R = _ from hr]
  exact (readAt_plane A8 (b % 3) (inb3 b) _ z).symm.trans
    (View.read_writes_cons_emb A8.view f8 (Rect.unit (s := S3x64x4096) ![b % 3, 0, 0] S1x64x4096.size (inb3 b)) w L z)

/-- The result of the run, entry by entry. -/
theorem resultOut_eq :
    resultOut c arg2 harg2 arg3 harg3 arg4 harg4 arg5 harg5 f1 f6 f7 f8 x2 x3 x4 x5 16 = kernelArr f1 x2 x3 x4 x5 := by
  generalize hR : resultOut c arg2 harg2 arg3 harg3 arg4 harg4 arg5 harg5 f1 f6 f7 f8 x2 x3 x4 x5 16 = R
  refine funext fun y : S16x64x4096.Idx => ?_
  have h := resultOut_plane c arg2 harg2 arg3 harg3 arg4 harg4 arg5 harg5 f1 f6 f7 f8 x2 x3 x4 x5 (y 0 : Fin 16) (y 0).isLt
    (ix3 (0 : Fin 1) (y 1) (y 2))
  rw [hR] at h
  have hm : ((y 0 : Fin 16) : ℕ) % 16 < 16 := Nat.mod_lt _ (by decide)
  have h1 : (Rect.unit (s := ⟨3, ![16, 64, 4096]⟩) ![(y 0 : Fin 16).val % 16, 0, 0] S1x64x4096.size (inb16 (y 0 : Fin 16))).emb
      (ix3 (0 : Fin 1) (y 1) (y 2)) = y := by
    rw [emb_plane _ _ hm]
    refine Eq.trans ?_ (ix3_eta (n0 := 16) (n1 := 64) (n2 := 4096) y)
    congr 1
    exact Fin.ext (Nat.mod_eq_of_lt (y 0).isLt)
  have h2 : R ((Rect.unit (s := ⟨3, ![16, 64, 4096]⟩) ![(y 0 : Fin 16).val % 16, 0, 0] S1x64x4096.size (inb16 (y 0 : Fin 16))).emb
      (ix3 (0 : Fin 1) (y 1) (y 2))) = kernelArr f1 x2 x3 x4 x5 y := h
  rw [h1] at h2
  exact h2

/-- So the run's result is `kernelArr`, whatever the buffers held. -/
theorem bodyRun_val (i : grid0.Coords) :
    (bodyRun c i arg2 harg2 arg3 harg3 arg4 harg4 arg5 harg5 f1 f6 f7 f8 x2 x3 x4 x5).1 = kernelArr f1 x2 x3 x4 x5 :=
  (bodyRun_eq c arg2 harg2 arg3 harg3 arg4 harg4 arg5 harg5 f1 f6 f7 f8 x2 x3 x4 x5 i).trans
    (resultOut_eq c arg2 harg2 arg3 harg3 arg4 harg4 arg5 harg5 f1 f6 f7 f8 x2 x3 x4 x5)
end

end Cert.KernelIdeal.Hand

end
-- ==== Proof.Launched.lean ====
/- The launch: the one region is entered with the input in HBM whole, the result in HBM whole, the two rings at
   anything and the nine transfer cells at zero; the body's run turns the result into `kernelArr` of what the region
   finds; the last host line transposes it. From this the frame and the kernel's value, at any floats. -/
module

public import proofs.«01_k».proof.Proof.RingVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body uses of its own -/

/-- The cells of the body's transfers: six of the input ring, three of the output ring. -/
def ownCell : Fin 9 → SemLoc sig :=
  fun j => (![SemLoc.dma 4, SemLoc.dma 5, SemLoc.dma 6, SemLoc.dma 7, SemLoc.dma 8, SemLoc.dma 9, SemLoc.dma 10, SemLoc.dma 11, SemLoc.dma 12] : Fin 9 → SemLoc sig) j
/-- The array it reads by transfers, and the one it writes by them. -/
abbrev readRefs : Finset (Ref sig .tc) := {main_v0}
abbrev writtenRefs : Finset (Ref sig .tc) := {main_v3}

theorem ownCell_facts : Pipeline.OwnSemFacts spec0 ownCell := by decide
theorem readRefs_sub : readRefs ⊆ Pipeline.restRefs sig spec0 := by decide
theorem writtenRefs_sub : writtenRefs ⊆ Pipeline.restRefs sig spec0 \ readRefs := by decide

theorem ownSems_eq (c : Dev nD) :
    (Pipeline.ownSems0 (Ix := Unit) (Name := ℕ) (U := Pipeline.UD sig nD τ) (Lvl := ℕ) (Val := Elt F) (τ := τ) ownCell c : sProp 𝕄)
      = iprop(semZ c 4 ∗ semZ c 5 ∗ semZ c 6 ∗ semZ c 7 ∗ semZ c 8 ∗ semZ c 9 ∗ semZ c 10 ∗ semZ c 11 ∗ semZ c 12) := by
  rw [Pipeline.ownSems0_eq_of_list c ownCell [0, 1, 2, 3, 4, 5, 6, 7, 8] (by decide) (by decide)]; rfl

/-! ## The result the body leaves -/

/-- The result array: `kernelArr` of what the region finds in the five operands. -/
def outArr (c : Dev nD) : HbBuf (F := F) c A6 :=
  kernelArr (V m c main_v0) (iblk m c 0 t0_0) (iblk m c 1 t0_0) (iblk m c 2 t0_0) (iblk m c 3 t0_0)

/-- The TensorCore's buffers after the body: the result array replaced. -/
def bufsAfter (c : Dev nD) : (b : Ref sig .tc) → Buf (Elt F) ((c : Thread nD τ).loc b) :=
  Function.update (V m c) main_v3 (outArr m c)

theorem bufsAfter_v3 (c : Dev nD) : bufsAfter m c main_v3 = outArr m c := Function.update_self ..

/-- The invariant's resources with the result array at `g`. -/
def held (c : Dev nD) (g : HbBuf (F := F) c A6) : sProp 𝕄 :=
  iprop(((∃ f, hbPt c A7 f) ∗ (∃ f, hbPt c A8 f))
    ∗ (semZ c 4 ∗ semZ c 5 ∗ semZ c 6 ∗ semZ c 7 ∗ semZ c 8 ∗ semZ c 9 ∗ semZ c 10 ∗ semZ c 11 ∗ semZ c 12)
    ∗ hbPt c A1 (V m c main_v0) ∗ hbPt c A6 g)

theorem held_eq (c : Dev nD) (G : (c : Dev nD) → (b : Ref sig .tc) → Buf (Elt F) ((c : Thread nD τ).loc b)) :
    (Pipeline.ΦDRV ownCell spec0 readRefs writtenRefs (V m) G c : sProp 𝕄) = held m c (G c main_v3) := by
  unfold Pipeline.ΦDRV held
  rw [ownSems_eq, scopedRest0_eq, BI.bigSep_eq_bigSepL_of_eq [main_v0] (by decide) (by decide),
    BI.bigSep_eq_bigSepL_of_eq [main_v3] (by decide) (by decide)]
  rfl

/-- The proof data: the arrays as the region finds them, every staged block left as it is, the invariant with the
    result array as found before the point and at `outArr` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t.val = 0 then held m c (V m c main_v3) else held m c (outArr m c)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A staged block held is its buffer held at the block's contents. -/
theorem stPt_of_owns (c : Dev nD) {S : Shape} (M : Memref sig .tc .vmem S .f32) (h : M.IsWhole) (x : S.Idx → Elt F .f32) :
    (owns (c : Thread nD τ) M fullShare x : sProp 𝕄) ⊢ stPt c M h x := by
  unfold owns
  iintro ⟨%g, %hg, G⟩
  rw [Memref.IsWhole.eq_unread h hg]
  iexact G
theorem owns_of_stPt (c : Dev nD) {S : Shape} (M : Memref sig .tc .vmem S .f32) (h : M.IsWhole) (x : S.Idx → Elt F .f32) :
    (stPt c M h x : sProp 𝕄) ⊢ owns (c : Thread nD τ) M fullShare x := by
  unfold owns
  iintro G
  iexists _; isplitr; swap; · iexact G
  ipureintro; exact h.read_unread x

theorem sound_body (c : Dev nD) (t : Fin cfg0.N) :
    bodyPre m c t ⊢ wp frame (wpE (defs₀ (F := F)) Variants.none c none) Set.univ (bodyAt0 t) (fun _ => bodyPost m c t) := by
  obtain rfl : t = t0_0 := Fin.ext (by have h : t.val < 1 := lt_of_lt_of_eq t.isLt N_0; exact Nat.lt_one_iff.mp h)
  unfold bodyPre bodyPost bodyAt0
  simp only [before_0, before_1, before_2, before_3, after_0, after_1, after_2, after_3]
  rw [show (dats m 0 c).Φ t0_0.castSucc = held m c (V m c main_v3) from rfl,
    show (dats m 0 c).Φ t0_0.succ = held m c (outArr m c) from rfl]
  unfold Dat.owesAt Pipeline.owesWithin held
  rw [show (dats m 0 c).owed t0_0.castSucc = 0 from rfl, show (dats m 0 c).owed t0_0.succ = 0 from rfl]
  iintro ⟨⟨⟨⟨%f7, H7⟩, ⟨%f8, H8⟩⟩, ⟨Q4, Q5, Q6, Q7, Q8, Q9, Q10, Q11, Q12⟩, H1, H6⟩, ⟨%W, -, HW⟩, ⟨%d0, G0⟩, ⟨%d1, G1⟩, ⟨%d2, G2⟩, ⟨%d3, G3⟩⟩
  ihave G0 := (stPt_of_owns c _ (hstage0_0 _) _) $$ G0
  ihave G1 := (stPt_of_owns c _ (hstage0_1 _) _) $$ G1
  ihave G2 := (stPt_of_owns c _ (hstage0_2 _) _) $$ G2
  ihave G3 := (stPt_of_owns c _ (hstage0_3 _) _) $$ G3
  iapply ((bodyRun c _ _ _ _ _ _ _ _ _ (V m c main_v0) (V m c main_v3) f7 f8 (iblk m c 0 t0_0) (iblk m c 1 t0_0) (iblk m c 2 t0_0) (iblk m c 3 t0_0)).2 W _)
  rw [bodyRun_val]
  isplitl [H1]; · iexact H1
  isplitl [H6]; · iexact H6
  isplitl [H7]; · iexact H7
  isplitl [H8]; · iexact H8
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [G0]; · iexact G0
  isplitl [G1]; · iexact G1
  isplitl [G2]; · iexact G2
  isplitl [G3]; · iexact G3
  isplitl [HW]; · iexact HW
  iintro ⟨H1, H6, H7, H8, Q4, Q5, Q6, Q7, Q8, Q9, Q10, Q11, Q12, G0, G1, G2, G3, ⟨%W', HW'⟩⟩
  isplitl [H1 H6 H7 H8 Q4 Q5 Q6 Q7 Q8 Q9 Q10 Q11 Q12]
  · isplitl [H7 H8]
    · isplitl [H7]; · iexact H7
      iexact H8
    isplitl [Q4 Q5 Q6 Q7 Q8 Q9 Q10 Q11 Q12]
    · isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      iexact Q12
    isplitl [H1]; · iexact H1
    iexact H6
  isplitl [HW']
  · iexists W'; isplitr; · ipureintro; exact fun _ _ => Or.inl trivial
    iexact HW'
  isplitl [G0]; · iapply owns_of_stPt; iexact G0
  isplitl [G1]; · iapply owns_of_stPt; iexact G1
  isplitl [G2]; · iapply owns_of_stPt; iexact G2
  iapply owns_of_stPt; iexact G3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The TensorCore's buffers at the end of the program. -/
def endBuf (c : Dev nD) (b : Ref sig .tc) : Buf (Elt F) ((c : Thread nD τ).loc b) :=
  StableHlo.after (List.flatten [hostOps1]) (Pipeline.withArrays spec0 c (Pipeline.withR (V0 m c) writtenRefs c (bufsAfter m c)) fun w => (dats m 0 c).arrAt w cfg0.N) (Proc.devRef .tc b)

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endBuf m c b)
    ∧ r.2.sem = fun _ => 0) :=
  Pipeline.θ_run_frame_dmaR_aroundV cfgs (dats m) (0 : Fin 1) launch0 ownCell defs₀ Variants.none ownCell_facts readRefs writtenRefs
    readRefs_sub writtenRefs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := bufsAfter m) (hmain := main_around m) (hA := A_eq m)
    (hin := fun c => by rw [show (dats m 0 c).Φ 0 = held m c (V m c main_v3) from rfl]; exact (held_eq m c (V m)) ▸ .rfl)
    (hout := fun c => by
      rw [show (dats m 0 c).Φ (Fin.last _) = held m c (outArr m c) from rfl, ← bufsAfter_v3]; exact (held_eq m c (bufsAfter m)) ▸ .rfl)
    (Q' := _) (hQ' := fun _ h => h)

/-- A buffer that neither the body nor the last host line writes, and no window stages, ends as the region finds it. -/
theorem endBuf_of_ne (c : Dev nD) (b : Ref sig .tc) (h4 : b ≠ main_v4) (h3 : b ∉ writtenRefs) (hw : ∀ w, Pipeline.arrRef spec0 w ≠ b) :
    endBuf m c b = V m c b := by
  unfold endBuf
  rw [StableHlo.after_of_forall_not_mem (b := Proc.devRef .tc b) _ _ (List.forall_iff_forall_mem.mp (by
      simp only [hostOps1, List.flatten_cons, List.flatten_nil, List.append_nil, List.Forall, StableHlo.unary_writes, Finset.mem_singleton]
      exact StableHlo.devRef_ne_of_ne h4)),
    Pipeline.withArrays_of_ne _ c _ _ b hw, Pipeline.withR_of_not_mem _ _ _ _ b h3]

/-- The program's result: the result array transposed. -/
theorem endBuf_v4 (c : Dev nD) :
    endBuf m c main_v4 = transpose S16x4096x64 [0, 2, 1] (outArr m c) transposes_S16x64x4096_S16x4096x64_0_2_1 := by
  unfold endBuf
  have e : Pipeline.withArrays spec0 c (Pipeline.withR (V0 m c) writtenRefs c (bufsAfter m c)) (fun w => (dats m 0 c).arrAt w cfg0.N) (Proc.devRef .tc main_v3) = outArr m c := by
    rw [Pipeline.withArrays_of_ne _ c _ _ main_v3 (by exact (by decide : ∀ w, Pipeline.arrRef spec0 w ≠ main_v3)),
      Pipeline.withR_of_mem _ _ _ _ main_v3 (by decide), bufsAfter_v3]
  rw [← e]
  simp only [hostOps1, List.flatten_cons, List.flatten_nil, List.append_nil]
  rfl

/-- The frame with the value: the arguments end unchanged, the result holds the transposed result array, and every
    cell ends at zero. -/
theorem run_value : θ_run defs (onTc (τ := τ) (main (F := F))) ⟨m, fun _ => 0, ρ⟩ (fun r => (∀ c : Dev nD,
      r.2.mem ((c.tc : Thread nD τ).loc main_v4) = transpose S16x4096x64 [0, 2, 1] (outArr m c) transposes_S16x64x4096_S16x4096x64_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_v4 (Pipeline.mem_restRefs_of main_v4 (by decide) (by decide))).trans (endBuf_v4 m c),
      ((h.1 c).2 main_arg0 (Pipeline.mem_restRefs_of main_arg0 (by decide) (by decide))).trans
        ((endBuf_of_ne m c main_arg0 (by decide) (by decide) (by exact (by decide : ∀ w, Pipeline.arrRef spec0 w ≠ main_arg0))).trans (V_main_arg0 m c)),
      ((h.1 c).1 0).trans (((dats m 0 c).arrAt_in 0 rfl _).trans ((A_eq m c 0).trans (V_main_arg1 m c))),
      ((h.1 c).2 main_arg2 (Pipeline.mem_restRefs_of main_arg2 (by decide) (by decide))).trans
        ((endBuf_of_ne m c main_arg2 (by decide) (by decide) (by exact (by decide : ∀ w, Pipeline.arrRef spec0 w ≠ main_arg2))).trans (V_main_arg2 m c)),
      ((h.1 c).1 2).trans (((dats m 0 c).arrAt_in 2 rfl _).trans ((A_eq m c 2).trans (V_main_arg3 m c))),
      ((h.1 c).2 main_arg4 (Pipeline.mem_restRefs_of main_arg4 (by decide) (by decide))).trans
        ((endBuf_of_ne m c main_arg4 (by decide) (by decide) (by exact (by decide : ∀ w, Pipeline.arrRef spec0 w ≠ main_arg4))).trans (V_main_arg4 m c))⟩, h.2⟩)
    (run_main m ρ)

end Cert.KernelIdeal.Hand

end
-- ==== Proof.Same.lean ====
/- The kernel as printed and the kernel printed for the ideal reading are one program text: read at the same floats, they
   are the same program. So the frame, proved of one at any floats, is the other's too. -/
module

public import proofs.«01_k».proof.Proof.Launched
public import proofs.«01_k».proof.Proof.Gen.Kernel

@[expose] public section

noncomputable section

namespace Cert.Kernel.Hand

open Idealize.ShloMosaic Idealize.ShloMosaic.TcCoe Idealize.ShloMosaic.Tactic Idealize.SL.Sem

variable {F : FTy → Type} [FloatOps F]

theorem main_same : Cert.Kernel.main (F := F) = Cert.KernelIdeal.main (F := F) := by sl_kernel_rfl
theorem defs_same : Cert.Kernel.defs (F := F) = Cert.KernelIdeal.defs (F := F) := by sl_kernel_rfl

/-- The frame of the kernel as printed. -/
theorem frame (m : (ℓ : Loc Kernel.nD Kernel.τ Kernel.sig) → Buf (Elt F) ℓ) (ρ : Dev Kernel.nD → PrngReg) :
    θ_run (Kernel.defs (F := F)) (onTc (τ := Kernel.τ) (Kernel.main (F := F))) ⟨m, fun _ => 0, ρ⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2)
      ∧ r.2.mem ((c.tc : Thread Kernel.nD Kernel.τ).loc Kernel.main_arg3) = m ((c.tc : Thread Kernel.nD Kernel.τ).loc Kernel.main_arg3)
      ∧ r.2.mem ((c.tc : Thread Kernel.nD Kernel.τ).loc Kernel.main_arg4) = m ((c.tc : Thread Kernel.nD Kernel.τ).loc Kernel.main_arg4))
      ∧ r.2.sem = fun _ => 0) := by
  rw [main_same, defs_same]
  exact (θ_run _ _ _).mono (fun _ h => ⟨fun c => (h.1 c).2, h.2⟩) (Cert.KernelIdeal.Hand.run_value (F := F) m ρ)

end Cert.Kernel.Hand

end
-- ==== Proof.TopTwo.lean ====
/- The two largest of finitely many extended reals, and the places they are at: the first place of the largest, and the
   first place of the largest of the others. They are the first two places of a stable sort, largest first. -/
module

public import Idealize.ShloMosaic.PureOps.Ideal
public import Idealize.ShloMosaic.Lib.SortFacts

@[expose] public section

noncomputable section

namespace Cert.TopTwo

open Idealize.ShloMosaic

variable {n : ℕ} (f : Fin n → EReal)

/-- Place `k` holds a larger value than place `k'`. -/
def before (k k' : Fin n) : Bool := decide (f k' < f k)

/-- Place `k` comes before place `k'`: its value is larger, or they are equal and it is the earlier place. -/
def Ahead (k k' : Fin n) : Prop := f k' < f k ∨ (f k' = f k ∧ k < k')

theorem Ahead.le {f : Fin n → EReal} {k k' : Fin n} (h : Ahead f k k') : f k' ≤ f k := by
  rcases h with h | h
  · exact h.le
  · exact h.1.le

theorem Ahead.first {f : Fin n → EReal} {k k' : Fin n} (h : Ahead f k k') (e : f k' = f k) : k ≤ k' := by
  rcases h with h | h
  · exact absurd e h.ne
  · exact h.2.le

theorem Ahead.ne {f : Fin n → EReal} {k k' : Fin n} (h : Ahead f k k') : k ≠ k' := by
  rintro rfl
  rcases h with h | h
  · exact lt_irrefl _ h
  · exact lt_irrefl _ h.2

/-- Inserting a place earlier than all of an ordered list keeps the list ordered. -/
theorem ahead_insert (a : Fin n) (l : List (Fin n)) (ha : ∀ b ∈ l, a < b) (hl : l.Pairwise (Ahead f)) :
    (insertBefore (before f) a l).Pairwise (Ahead f) := by
  induction l with
  | nil => exact List.pairwise_singleton _ _
  | cons b l ih =>
    have hb := List.pairwise_cons.mp hl
    unfold insertBefore
    split
    · rename_i h
      refine List.pairwise_cons.mpr ⟨fun c hc => ?_, ih (fun c hc => ha c (List.mem_cons_of_mem _ hc)) hb.2⟩
      rcases List.mem_cons.mp ((perm_insertBefore (before f) a l).mem_iff.mp hc) with rfl | hc'
      · exact Or.inl (of_decide_eq_true h)
      · exact hb.1 c hc'
    · rename_i h
      have hab : f b ≤ f a := not_lt.mp fun hlt => h (decide_eq_true hlt)
      refine List.pairwise_cons.mpr ⟨fun c hc => ?_, hl⟩
      have hca : f c ≤ f a := by
        rcases List.mem_cons.mp hc with rfl | hc'
        · exact hab
        · exact (hb.1 c hc').le.trans hab
      rcases hca.lt_or_eq with h' | h'
      · exact Or.inl h'
      · exact Or.inr ⟨h', ha c hc⟩

/-- The stable sort of an ascending list of places is ordered. -/
theorem ahead_sort (l : List (Fin n)) (hl : l.Pairwise (· < ·)) : (stableSort (before f) l).Pairwise (Ahead f) := by
  induction l with
  | nil => exact List.Pairwise.nil
  | cons a l ih =>
    have ha := List.pairwise_cons.mp hl
    unfold stableSort
    exact ahead_insert f a _ (fun b hb => ha.1 b ((perm_stableSort (before f) l).mem_iff.mp hb)) (ih ha.2)

/-- So the sorted places come one ahead of the next. -/
theorem ahead_sorted (i j : Fin n) (h : i < j) : Ahead f (sortedFrom (before f) i) (sortedFrom (before f) j) := by
  have hp : ∀ a b : Fin (sortPositions n (before f)).length, a < b →
      Ahead f ((sortPositions n (before f)).get a) ((sortPositions n (before f)).get b) :=
    List.pairwise_iff_get.mp (ahead_sort f (List.finRange n) (List.pairwise_lt_finRange n))
  exact hp _ _ h

variable (f : Fin 8 → EReal)

/-- The first place of the largest value. -/
def top : Fin 8 := sortedFrom (before f) 0

/-- The first place of the largest of the other values. -/
def snd : Fin 8 := sortedFrom (before f) 1

theorem top_ahead (p : Fin 8) (h : p ≠ top f) : Ahead f (top f) p := by
  obtain ⟨j, rfl⟩ := sortedFrom_surjective (before f) p
  exact ahead_sorted f 0 j (Fin.pos_of_ne_zero fun e => h (by rw [e]; rfl))

theorem snd_ne_top : snd f ≠ top f := (ahead_sorted f 0 1 (by decide)).ne.symm

theorem snd_ahead (p : Fin 8) (h : p ≠ top f) (h' : p ≠ snd f) : Ahead f (snd f) p := by
  obtain ⟨j, rfl⟩ := sortedFrom_surjective (before f) p
  have h0 : j ≠ 0 := fun e => h (by rw [e]; rfl)
  have h1 : j ≠ 1 := fun e => h' (by rw [e]; rfl)
  exact ahead_sorted f 1 j (by omega)

theorem le_top (p : Fin 8) : f p ≤ f (top f) := by
  by_cases h : p = top f
  · rw [h]
  · exact (top_ahead f p h).le

theorem top_le (p : Fin 8) (e : f p = f (top f)) : top f ≤ p := by
  by_cases h : p = top f
  · rw [h]
  · exact (top_ahead f p h).first e

/-- The values with the largest one's first place struck out. -/
def others (p : Fin 8) : EReal := if p = top f then ⊥ else f p

theorem others_snd : others f (snd f) = f (snd f) := if_neg (snd_ne_top f)

theorem others_le (p : Fin 8) : others f p ≤ others f (snd f) := by
  rw [others_snd]
  unfold others
  split
  · exact bot_le
  · rename_i h
    by_cases h' : p = snd f
    · rw [h']
    · exact (snd_ahead f p h h').le

theorem snd_le (hf : ∀ p, f p ≠ ⊥) (p : Fin 8) (e : others f p = others f (snd f)) : snd f ≤ p := by
  by_cases h : p = top f
  · rw [others_snd, others, if_pos h] at e
    exact absurd e.symm (hf _)
  · by_cases h' : p = snd f
    · rw [h']
    · rw [others_snd, others, if_neg h] at e
      exact (snd_ahead f p h h').first e

end Cert.TopTwo

end
-- ==== Proof.Weights.lean ====
/- The weights of the two chosen primitives, from the router's logits: the softmax over the two largest logits, nothing
   for the others. And the numbers, finite or not, that the claim computes with. -/
module

public import proofs.«01_k».proof.Proof.TopTwo
public import Idealize.ShloMosaic.Lib.IdealHost

@[expose] public section

noncomputable section

namespace Cert.TopTwo

open Idealize.ShloMosaic

/-- `x` is a real number. -/
def Finite (x : EReal) : Prop := ∃ r : ℝ, x = (r : EReal)

theorem Finite.ne_bot {x : EReal} (h : Finite x) : x ≠ ⊥ := by
  obtain ⟨r, rfl⟩ := h; exact EReal.coe_ne_bot r

theorem Finite.ne_top {x : EReal} (h : Finite x) : x ≠ ⊤ := by
  obtain ⟨r, rfl⟩ := h; exact EReal.coe_ne_top r

theorem Finite.add {x y : EReal} (hx : Finite x) (hy : Finite y) : Finite (x + y) := by
  obtain ⟨r, rfl⟩ := hx; obtain ⟨s, rfl⟩ := hy; exact ⟨r + s, (EReal.coe_add r s).symm⟩

theorem Finite.mul {x y : EReal} (hx : Finite x) (hy : Finite y) : Finite (x * y) := by
  obtain ⟨r, rfl⟩ := hx; obtain ⟨s, rfl⟩ := hy; exact ⟨r * s, (EReal.coe_mul r s).symm⟩

theorem Finite.sum {ι : Type} (s : Finset ι) {f : ι → EReal} (hf : ∀ i, Finite (f i)) : Finite (∑ i ∈ s, f i) := by
  classical
  induction s using Finset.induction_on with
  | empty => exact ⟨0, by simp⟩
  | insert a s ha ih => rw [Finset.sum_insert ha]; exact (hf a).add ih

/-- The sum of reals as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (f : Fin 8 → EReal)

/-- `exp` of the second largest logit less the largest. -/
def ratio : EReal := Ideal.exp (f (snd f) - f (top f))

/-- Primitive `p`'s weight. -/
def gate (p : Fin 8) : EReal :=
  (if top f = p then Ideal.div 1 (1 + ratio f) else 0) + (if snd f = p then Ideal.div (ratio f) (1 + ratio f) else 0)

variable {f}

theorem ratio_pos (hf : ∀ p, Finite (f p)) : ∃ r : ℝ, 0 < r ∧ ratio f = (r : EReal) := by
  obtain ⟨a, ha⟩ := hf (snd f)
  obtain ⟨b, hb⟩ := hf (top f)
  exact ⟨Real.exp (a - b), Real.exp_pos _, by rw [ratio, ha, hb, ← EReal.coe_sub]; rfl⟩

/-- A real over one plus a positive real. -/
theorem div_one_add {x r : ℝ} (hr : 0 < r) : Ideal.div (x : EReal) (1 + (r : EReal)) = ((x / (1 + r) : ℝ) : EReal) := by
  have h : (1 + (r : EReal)) = ((1 + r : ℝ) : EReal) := by rw [EReal.coe_add, EReal.coe_one]
  rw [h, Ideal.div_coe (by positivity), ← EReal.coe_mul]
  congr 1
  ring

/-- A weight is a real number, not negative. -/
theorem gate_real (hf : ∀ p, Finite (f p)) (p : Fin 8) : ∃ g : ℝ, 0 ≤ g ∧ gate f p = (g : EReal) := by
  obtain ⟨r, hr, e⟩ := ratio_pos hf
  have h1 : Ideal.div 1 (1 + (r : EReal)) = ((1 / (1 + r) : ℝ) : EReal) := by
    have := div_one_add (x := 1) hr
    rwa [EReal.coe_one] at this
  refine ⟨(if top f = p then 1 / (1 + r) else 0) + (if snd f = p then r / (1 + r) else 0), ?_, ?_⟩
  · split <;> split <;> positivity
  · rw [gate, e, h1, div_one_add hr, EReal.coe_add]
    split <;> split <;> simp

/-- A real logit less itself has exponential one. -/
theorem exp_self {x : EReal} (h : Finite x) : Ideal.exp (x - x) = 1 := by
  obtain ⟨a, rfl⟩ := h
  rw [← EReal.coe_sub, sub_self]
  show ((Real.exp 0 : ℝ) : EReal) = 1
  rw [Real.exp_zero, EReal.coe_one]

/-- The softmax as it is written, shifted by the largest logit, which is also the larger of the two: the larger's weight, -/
theorem softmax_top (hf : ∀ p, Finite (f p)) (M : EReal) (hM : M = f (top f)) :
    Ideal.div (Ideal.exp (f (top f) - M)) (Ideal.exp (f (top f) - M) + Ideal.exp (f (snd f) - M)) = Ideal.div 1 (1 + ratio f) := by
  rw [hM, exp_self (hf _)]; rfl

/-- and the other's. -/
theorem softmax_snd (hf : ∀ p, Finite (f p)) (M : EReal) (hM : M = f (top f)) :
    Ideal.div (Ideal.exp (f (snd f) - M)) (Ideal.exp (f (top f) - M) + Ideal.exp (f (snd f) - M)) = Ideal.div (ratio f) (1 + ratio f) := by
  rw [hM, exp_self (hf _)]; rfl

end Cert.TopTwo

end
-- ==== Proof.Extremes.lean ====
/- Reading a column's largest value, and the first place it is at, off the reductions that compute them. -/
module

public import proofs.«01_k».proof.Proof.Weights

@[expose] public section

noncomputable section

namespace Cert.TopTwo

open Idealize.ShloMosaic

/-- The pattern of minus infinity. -/
theorem ofBits_neg_inf : Ideal.ofBits .f32 0xFF800000#32 = ⊥ := by simp [Ideal.ofBits, Ideal.ieee]

/-- The largest value is at a place that nothing exceeds. -/
theorem fold_max_eq {n : ℕ} (g : Fin n → EReal) (a : Fin n) (h : ∀ p, g p ≤ g a) : (Finset.univ : Finset (Fin n)).fold max ⊥ g = g a := by
  refine le_antisymm (Finset.fold_max_le _ |>.mpr ⟨bot_le, fun p _ => h p⟩) ?_
  exact (Finset.le_fold_max _).mpr (Or.inr ⟨a, Finset.mem_univ a, le_refl _⟩)

/-- The smaller of two words, as integers. -/
theorem minsi_toInt (x y : BitVec 32) : (IntOp.minsi x y).toInt = min x.toInt y.toInt := by
  unfold IntOp.minsi
  simp only [BitVec.slt_eq_decide, decide_eq_true_eq]
  split <;> omega

/-- The smallest word is at a place that nothing is below. -/
theorem fold_minsi_eq {n : ℕ} (g : Fin n → BitVec 32) (a : Fin n) (h : ∀ p, (g a).toInt ≤ (g p).toInt) :
    (Finset.univ : Finset (Fin n)).fold IntOp.minsi 2147483647#32 g = g a := by
  have e : ((Finset.univ : Finset (Fin n)).fold IntOp.minsi 2147483647#32 g).toInt
      = (Finset.univ : Finset (Fin n)).fold min (2147483647#32 : BitVec 32).toInt (fun p => (g p).toInt) :=
    (Finset.fold_hom (m := BitVec.toInt) (fun x y => minsi_toInt x y)).symm
  refine BitVec.eq_of_toInt_eq ?_
  rw [e]
  have hm : (2147483647#32 : BitVec 32).toInt = 2147483647 := by decide
  refine le_antisymm ((Finset.fold_min_le _).mpr (Or.inr ⟨a, Finset.mem_univ a, le_refl _⟩)) ?_
  refine (Finset.le_fold_min _).mpr ⟨?_, fun p _ => h p⟩
  rw [hm]
  have := BitVec.toInt_lt (x := g a)
  norm_num at this ⊢
  omega

/-- A small number's word, as an integer. -/
theorem toInt_small {p : ℕ} (h : p ≤ 8) : (BitVec.ofNat 32 p).toInt = p := by
  interval_cases p <;> decide

/-- The smallest of the places marked, where 8 stands for a place that is not: the first marked place. -/
theorem fold_first (P : Fin 8 → Prop) [DecidablePred P] (a : Fin 8) (ha : P a) (h : ∀ p, P p → a ≤ p) :
    (Finset.univ : Finset (Fin 8)).fold IntOp.minsi 2147483647#32 (fun p => if P p then BitVec.ofNat 32 p.val else 8#32)
      = BitVec.ofNat 32 a.val := by
  rw [fold_minsi_eq _ a, if_pos ha]
  intro p
  rw [if_pos ha, toInt_small (by omega)]
  split
  · rename_i hp
    rw [toInt_small (by omega)]
    exact_mod_cast h p hp
  · rw [show (8#32 : BitVec 32).toInt = 8 by decide]
    omega

/-- Two places' words are equal when the places are. -/
theorem word_eq_iff (a b : Fin 8) : (BitVec.ofNat 32 a.val = BitVec.ofNat 32 b.val) ↔ a = b := by
  constructor
  · intro h
    have := congrArg BitVec.toInt h
    rw [toInt_small (by omega), toInt_small (by omega)] at this
    exact Fin.ext (by exact_mod_cast this)
  · rintro rfl; rfl

/-- A comparison of places' words selects as the comparison of the places. -/
theorem select_word {α : Type} (a b : Fin 8) (x y : α) :
    Scalar.select (IntOp.cmpi .eq (BitVec.ofNat 32 a.val) (BitVec.ofNat 32 b.val)) x y = if a = b then x else y := by
  by_cases h : a = b
  · subst h; rw [if_pos rfl]; simp [Scalar.select, IntOp.cmpi]
  · have h' := fun e => h ((word_eq_iff a b).mp e)
    have hb : (BitVec.ofNat 32 a.val == BitVec.ofNat 32 b.val) = false := beq_eq_false_iff_ne.mpr h'
    rw [if_neg h]; simp only [Scalar.select, IntOp.cmpi, hb]; rfl

end Cert.TopTwo

end
-- ==== Proof.BlockVal.lean ====
/- One batch element's block, read at an index over the extended reals: the kernel's two passes of "largest, first place of
   the largest, strike it out" find the two chosen primitives, so its weights are `gate` of the logits, and the block is the
   state through `I + Σ_p gate_p W_p`, plus the weighted biases. -/
module

public import proofs.«01_k».proof.Proof.Block
public import proofs.«01_k».proof.Proof.Extremes
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Cert.TopTwo

/-- A column of eight as a function of the place. -/
def col (l : FVec Ideal S8x1 .f32) : Fin 8 → EReal := fun p => l (ix2 p 0)

theorem maxV_eq (l : FVec Ideal S8x1 .f32) (a : Fin 8) (h : ∀ p, col l p ≤ col l a) : maxV l (ix2 0 0) = col l a := by
  rw [← fold_max_eq (col l) a h, ← ofBits_neg_inf]
  pointwise [maxV]
  rfl

theorem argV_eq (l : FVec Ideal S8x1 .f32) (a : Fin 8) (h : ∀ p, col l p ≤ col l a) (h' : ∀ p, col l p = col l a → a ≤ p) :
    argV l (ix2 0 0) = BitVec.ofNat 32 a.val := by
  rw [← fold_first (fun p => col l p = col l a) a rfl h']
  pointwise [argV]
  rw [maxV_eq l a h]
  rfl

theorem iotaV_eq (p : Fin 8) : iotaV (ix2 p 0) = BitVec.ofNat 32 p.val := by pointwise [iotaV]

theorem col_maskV (l : FVec Ideal S8x1 .f32) : col (maskV l) = others (col l) := by
  funext p
  have h : col (maskV l) p = Scalar.select (IntOp.cmpi .eq (BitVec.ofNat 32 p.val) (argV l (ix2 0 0)))
      (Ideal.ofBits .f32 0xFF800000#32) (col l p) := by
    unfold col
    pointwise [maskV]
    rw [iotaV_eq]
  rw [h, argV_eq l (top (col l)) (le_top _) (top_le _), ofBits_neg_inf, select_word]
  rfl

/-- The weight of primitive `p`. -/
theorem gateV_eq (l : FVec Ideal S8x1 .f32) (hf : ∀ p, Finite (col l p)) (p : Fin 8) :
    gateV l p.val (ix2 0 0) = gate (col l) p := by
  have hm : ∀ q, col (maskV l) q ≤ col (maskV l) (snd (col l)) := by rw [col_maskV]; exact others_le _
  have hm' : ∀ q, col (maskV l) q = col (maskV l) (snd (col l)) → snd (col l) ≤ q := by
    rw [col_maskV]; exact snd_le _ fun q => (hf q).ne_bot
  have e1 := argV_eq l (top (col l)) (le_top _) (top_le _)
  have e2 := argV_eq (maskV l) (snd (col l)) hm hm'
  have e3 := maxV_eq l (top (col l)) (le_top _)
  have e4 := maxV_eq (maskV l) (snd (col l)) hm
  rw [col_maskV, others_snd] at e4
  pointwise [gateV, firstV, secondV, expV]
  rw [e1, e2, e3, e4, select_word, select_word]
  rfl

/-- The identity matrix. -/
theorem eyeV_eq (c d : Fin 64) : eyeV (F := Ideal) (ix2 c d) = if c = d then 1 else 0 := by
  have h : ∀ c d : Fin 64, ((BitVec.setWidth 32 (IntOp.cmpi CmpIPredicate.eq (IntOp.addi (BitVec.ofNat 32 c.val) 0#32)
      (BitVec.ofNat 32 d.val))).toInt) = if c = d then 1 else 0 := by decide
  pointwise [eyeV]
  show (((BitVec.setWidth 32 (IntOp.cmpi CmpIPredicate.eq (IntOp.addi (BitVec.ofNat 32 c.val) 0#32)
      (BitVec.ofNat 32 d.val))).toInt : ℝ) : EReal) = _
  rw [h]
  split <;> simp

theorem accW_eq (l : FVec Ideal S8x1 .f32) (W : ℕ → Vec Ideal S1x64x64 .f32) (n : ℕ) (c d : Fin 64) :
    accW l W n (ix2 c d) = (if c = d then 1 else 0) + ∑ p ∈ Finset.range n, gateV l p (ix2 0 0) * W p (ix3 0 c d) := by
  induction n with
  | zero => rw [Finset.range_zero, Finset.sum_empty, add_zero, ← eyeV_eq]; rfl
  | succ n ih =>
    rw [Finset.sum_range_succ, ← add_assoc, ← ih]
    pointwise [accW]

theorem accB_eq (l : FVec Ideal S8x1 .f32) (B : ℕ → Vec Ideal S64x1 .f32) (n : ℕ) (d : Fin 64) :
    accB l B n (ix2 d 0) = ∑ p ∈ Finset.range n, gateV l p (ix2 0 0) * B p (ix2 d 0) := by
  induction n with
  | zero => rw [Finset.range_zero, Finset.sum_empty, ← Ideal.ofBits_zero_f32]; rfl
  | succ n ih =>
    rw [Finset.sum_range_succ, ← ih]
    pointwise [accB]

/-- The logits. -/
theorem logitV_eq (v : Vec Ideal S1x64x4096 .f32) (wr : Vec Ideal S64x8 .f32) (br : Vec Ideal S8x1 .f32) (p : Fin 8) :
    col (logitV v wr br) p
      = ∑ c : Fin 64, wr (ix2 c p) * ((∑ n : Fin 4096, v (ix3 0 c n)) * Ideal.ofBits .f32 0x39800000#32) + br (ix2 p 0) := by
  unfold col
  pointwise [logitV, uMat]

/-- The block at channel `d`, position `n`. -/
theorem blkOut_eq (v : Vec Ideal S1x64x4096 .f32) (wr : Vec Ideal S64x8 .f32) (br : Vec Ideal S8x1 .f32)
    (W : ℕ → Vec Ideal S1x64x64 .f32) (B : ℕ → Vec Ideal S64x1 .f32) (f : Fin 8 → EReal) (e : col (logitV v wr br) = f)
    (hf : ∀ p, Finite (f p)) (d : Fin 64) (n : Fin 4096) :
    blkOut v wr br W B (ix3 0 d n)
      = (∑ c : Fin 64, ((if c = d then 1 else 0) + ∑ p : Fin 8, gate f p * W p.val (ix3 0 c d)) * v (ix3 0 c n))
        + ∑ p : Fin 8, gate f p * B p.val (ix2 d 0) := by
  subst e
  have h : blkOut v wr br W B (ix3 0 d n) = (∑ c : Fin 64, accW (logitV v wr br) W 8 (ix2 c d) * v (ix3 0 c n))
      + accB (logitV v wr br) B 8 (ix2 d 0) := by
    pointwise [blkOut, uMat]
  rw [h, accB_eq]
  simp only [accW_eq, Finset.sum_range, gateV_eq _ hf]

end Cert.KernelIdeal.Hand

end
-- ==== Proof.ArrayVal.lean ====
/- What the array holds at the ideal reading: each staged block is its whole array, each array the host lines prepare is
   the argument transposed or reshaped, and the result read at an entry. -/
module

public import proofs.«01_k».proof.Proof.BlockVal
public import proofs.«01_k».proof.Proof.Launched

@[expose] public section

set_option maxRecDepth 16384

noncomputable section

namespace Cert.KernelIdeal.Hand

open Cert.KernelIdeal Cert.KernelIdeal.Gen
open Idealize.ShloMosaic Idealize.ShloMosaic.TcCoe Cert.TopTwo

variable (m : (ℓ : Loc nD τ sig) → Buf (Elt Ideal) ℓ) (c : Dev nD)

/-- The arguments. -/
abbrev arg0 : FVec Ideal S16x4096x64 .f32 := m ((c : Thread nD τ).loc main_arg0)
abbrev arg1 : FVec Ideal S8x64x64 .f32 := m ((c : Thread nD τ).loc main_arg1)
abbrev arg2 : FVec Ideal S8x64 .f32 := m ((c : Thread nD τ).loc main_arg2)
abbrev arg3 : FVec Ideal S64x8 .f32 := m ((c : Thread nD τ).loc main_arg3)
abbrev arg4 : FVec Ideal S8 .f32 := m ((c : Thread nD τ).loc main_arg4)

/-! ## The arrays the region finds -/

theorem V_v0 : V m c main_v0 = transpose S16x64x4096 [0, 2, 1] (arg0 m c) transposes_S16x4096x64_S16x64x4096_0_2_1 := by
  simp only [hostOps0, List.flatten_cons, List.flatten_nil, List.append_nil]
  rfl
theorem V_v1 : V m c main_v1 = transpose S64x8 [1, 0] (arg2 m c) transposes_S8x64_S64x8_1_0 := by
  simp only [hostOps0, List.flatten_cons, List.flatten_nil, List.append_nil]
  rfl
theorem V_v2 : V m c main_v2 = shapeCast S8x1 (arg4 m c) (by decide) := by
  unfold V V0
  simp only [hostOps0, List.flatten_cons, List.flatten_nil, List.append_nil]
  rfl

theorem V_v0_at (b : Fin 16) (d : Fin 64) (n : Fin 4096) : (V m c main_v0 : FVec Ideal S16x64x4096 .f32) (ix3 b d n) = arg0 m c (ix3 b n d) := by
  rw [V_v0]
  pointwise []
theorem V_v1_at (d : Fin 64) (p : Fin 8) : (V m c main_v1 : FVec Ideal S64x8 .f32) (ix2 d p) = arg2 m c (ix2 p d) := by
  rw [V_v1]
  pointwise []

theorem V_v2_at (p : Fin 8) : (V m c main_v2 : FVec Ideal S8x1 .f32) (ix2 p 0) = arg4 m c (ix1 p) := by
  rw [V_v2]
  pointwise []

/-! ## The staged blocks -/

theorem iblk_0 : (iblk m c 0 t0_0 : FVec Ideal S8x64x64 .f32) = V m c main_arg1 :=
  Memref.read_access_unit_zero _ _ (by funext a; fin_cases a <;> rfl) _ _
theorem iblk_1 : (iblk m c 1 t0_0 : FVec Ideal S64x8 .f32) = V m c main_v1 :=
  Memref.read_access_unit_zero _ _ (by funext a; fin_cases a <;> rfl) _ _
theorem iblk_2 : (iblk m c 2 t0_0 : FVec Ideal S64x8 .f32) = V m c main_arg3 :=
  Memref.read_access_unit_zero _ _ (by funext a; fin_cases a <;> rfl) _ _
theorem iblk_3 : (iblk m c 3 t0_0 : FVec Ideal S8x1 .f32) = V m c main_v2 :=
  Memref.read_access_unit_zero _ _ (by funext a; fin_cases a <;> rfl) _ _

/-! ## The result -/

/-- A sample's logits, as the kernel computes them. -/
def logits (b : Fin 16) : Fin 8 → EReal := fun p =>
  (∑ d : Fin 64, arg3 m c (ix2 d p) * ((∑ n : Fin 4096, arg0 m c (ix3 b n d)) * Ideal.ofBits .f32 0x39800000#32)) + arg4 m c (ix1 p)

theorem col_logits (b : Fin 16) :
    col (logitV (inBlk (V m c main_v0) b) (iblk m c 2 t0_0) (iblk m c 3 t0_0)) = logits m c b := by
  funext p
  rw [logitV_eq, iblk_2, iblk_3, V_main_arg3, V_v2_at]
  have hu : ∀ (d : Fin 64) (n : Fin 4096), inBlk (V m c main_v0) b (ix3 0 d n) = arg0 m c (ix3 b n d) := fun d n => V_v0_at m c b d n
  simp only [hu]
  rfl

theorem place (p : Fin 8) : (⟨p.val % 8, Nat.mod_lt _ (by decide)⟩ : Fin 8) = p := Fin.ext (Nat.mod_eq_of_lt p.isLt)

/-- The result at an entry. -/
theorem result_at (b : Fin 16) (hf : ∀ p, Finite (logits m c b p)) (n : Fin 4096) (d : Fin 64) :
    transpose S16x4096x64 [0, 2, 1] (outArr m c) transposes_S16x64x4096_S16x4096x64_0_2_1 (ix3 b n d)
      = (∑ e : Fin 64, ((if e = d then 1 else 0) + ∑ p : Fin 8, gate (logits m c b) p * arg1 m c (ix3 p e d)) * arg0 m c (ix3 b n e))
        + ∑ p : Fin 8, gate (logits m c b) p * arg2 m c (ix2 p d) := by
  have ht : transpose S16x4096x64 [0, 2, 1] (outArr m c) transposes_S16x64x4096_S16x4096x64_0_2_1 (ix3 b n d)
      = (outArr m c : FVec Ideal S16x64x4096 .f32) (ix3 b d n) := by
    generalize outArr m c = y
    pointwise []
  rw [ht]
  show blkOut (inBlk (V m c main_v0) b) (iblk m c 2 t0_0) (iblk m c 3 t0_0) (matBlk (iblk m c 0 t0_0)) (biasBlk (iblk m c 1 t0_0)) (ix3 0 d n) = _
  rw [blkOut_eq _ _ _ _ _ _ (col_logits m c b) hf, iblk_0, iblk_1, V_main_arg1]
  have hW : ∀ (p : Fin 8) (e d : Fin 64), matBlk (F := Ideal) (arg1 m c) p.val (ix3 0 e d) = arg1 m c (ix3 p e d) := fun p e d => by
    unfold matBlk; rw [place]; rfl
  have hB : ∀ (p : Fin 8) (d : Fin 64), biasBlk (F := Ideal) (V m c main_v1) p.val (ix2 d 0) = arg2 m c (ix2 p d) := fun p d => by
    unfold biasBlk; rw [place]; exact V_v1_at m c d p
  have hu : ∀ e : Fin 64, inBlk (V m c main_v0) b (ix3 0 e n) = arg0 m c (ix3 b n e) := fun e => V_v0_at m c b e n
  simp only [hW, hB, hu]

end Cert.KernelIdeal.Hand

end
-- ==== Proof.RefVal.lean ====
/- What the reference computes, an entry at a time: the router's logits, the softmax over the two largest, the weights it
   scatters by comparing places, and the result. -/
module

public import proofs.«01_k».proof.Proof.Gen.ReferenceIdeal.Read
public import proofs.«01_k».proof.Proof.Extremes
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Cert.TopTwo

/-! ## The two largest of a row -/

/-- Row `b` of a matrix of logits. -/
def row (y : FVec Ideal S16x8 .f32) (b : Fin 16) : Fin 8 → EReal := fun p => y (ix2 b p)

/-- The order the sort asks is the order of the values. -/
theorem sorts_before (y : FVec Ideal S16x8 .f32) (b : Fin 16) (q : Fin 8) :
    (fun k k' : Fin 8 => FloatOps.cmpfTotal (F := Ideal) (φ := .f32) .gt (y (Shape.Idx.along (s := S16x8) (ix2 b q) 1 k)) (y (Shape.Idx.along (s := S16x8) (ix2 b q) 1 k')) == 1#1)
      = before (row y b) := by
  have ha : ∀ k : Fin 8, Shape.Idx.along (s := S16x8) (ix2 b q) 1 k = ix2 b k := fun k => by
    funext a; match a with
    | ⟨0, _⟩ => rfl
    | ⟨1, _⟩ => rfl
  funext k k'
  rw [ha, ha, Ideal.cmpfTotal_def]
  show (BitVec.ofBool (decide (y (ix2 b k') < y (ix2 b k))) == 1#1) = decide (y (ix2 b k') < y (ix2 b k))
  cases decide (y (ix2 b k') < y (ix2 b k)) <;> rfl

/-- The row sorted with its places: position `j` holds the value at the place that comes `j`-th. -/
theorem sort_at (y : FVec Ideal S16x8 .f32) (b : Fin 16) (q : Fin 8) :
    let s := Host.sort2 S16x8 1 (fun l r : EReal × BitVec 32 => FloatOps.cmpfTotal (F := Ideal) (φ := .f32) .gt l.1 r.1) y
      (fun i => if hd : 1 < S16x8.rank then iotaInDim S16x8 32 ⟨1, hd⟩ i else 0#32)
    s.1 (ix2 b q) = row y b (sortedFrom (before (row y b)) q)
      ∧ s.2 (ix2 b q) = BitVec.ofNat 32 (sortedFrom (before (row y b)) q).val := by
  unfold Host.sort2
  rw [dif_pos (show 1 < S16x8.rank by decide)]
  have ho := sorts_before y b q
  constructor
  · show y (Shape.Idx.along (s := S16x8) (ix2 b q) 1 (sortedFrom _ _)) = _
    erw [ho]
    refine congrArg y ?_
    funext a; match a with
    | ⟨0, _⟩ => rfl
    | ⟨1, _⟩ => rfl
  · show BitVec.ofNat 32 (Shape.Idx.along (s := S16x8) (ix2 b q) 1 (sortedFrom _ _) 1).val = _
    erw [ho]
    rfl

/-- A cut from the start reads the same place. -/
theorem cut_at {β : Type} (v : S16x8.Idx → β) (b : Fin 16) (j : Fin 2) (q : Fin 8) (hq : q.val = j.val) :
    extractStridedSlice S16x2 (fun _ => 0) v sliceFits_S16x8_S16x2 (ix2 b j) = v (ix2 b q) := by
  refine congrArg v ?_
  funext a; match a with
  | ⟨0, _⟩ => exact Fin.ext (by simp [ix2])
  | ⟨1, _⟩ => exact Fin.ext (by simp [ix2, hq])

/-- The two largest of a row, and their places. -/
theorem topK_at (y : FVec Ideal S16x8 .f32) (b : Fin 16) (j : Fin 2) (q : Fin 8) (hq : q.val = j.val) :
    (Host.topK S16x2 1 (FloatOps.cmpfTotal .gt) y sliceFits_S16x8_S16x2).1 (ix2 b j) = row y b (sortedFrom (before (row y b)) q)
      ∧ (Host.topK S16x2 1 (FloatOps.cmpfTotal .gt) y sliceFits_S16x8_S16x2).2 (ix2 b j)
        = BitVec.ofNat 32 (sortedFrom (before (row y b)) q).val :=
  ⟨(cut_at _ b j q hq).trans (sort_at y b q).1, (cut_at _ b j q hq).trans (sort_at y b q).2⟩

/-! ## The stages -/

section
variable (x0 : FVec Ideal S16x4096x64 .f32) (x1 : FVec Ideal S8x64x64 .f32) (x2 : FVec Ideal S8x64 .f32)
  (x3 : FVec Ideal S64x8 .f32) (x4 : FVec Ideal S8 .f32)

/-- A sample's logits. -/
def logits (b : Fin 16) : Fin 8 → EReal := row (val_main_v6 (F := Ideal) x0 x3 x4) b

theorem logits_eq (b : Fin 16) (p : Fin 8) : logits x0 x3 x4 b p
    = (∑ c : Fin 64, Ideal.div (∑ n : Fin 4096, x0 (ix3 b n c)) (Ideal.ofBits .f32 0x45800000#32) * x3 (ix2 c p)) + x4 (ix1 p) := by
  unfold logits row
  pointwise [val_main_v6, val_main_v5, val_main_v4, val_main_v3, val_main_v2, val_main_v1, val_main_v0, val_main_cst, val_main_cst_0]

theorem values_0 (b : Fin 16) : val_main_values (F := Ideal) x0 x3 x4 (ix2 b 0) = logits x0 x3 x4 b (top (logits x0 x3 x4 b)) :=
  (topK_at _ b 0 0 rfl).1
theorem values_1 (b : Fin 16) : val_main_values (F := Ideal) x0 x3 x4 (ix2 b 1) = logits x0 x3 x4 b (snd (logits x0 x3 x4 b)) :=
  (topK_at _ b 1 1 rfl).1
theorem indices_0 (b : Fin 16) : val_main_indices (F := Ideal) x0 x3 x4 (ix2 b 0) = BitVec.ofNat 32 (top (logits x0 x3 x4 b)).val :=
  (topK_at _ b 0 0 rfl).2
theorem indices_1 (b : Fin 16) : val_main_indices (F := Ideal) x0 x3 x4 (ix2 b 1) = BitVec.ofNat 32 (snd (logits x0 x3 x4 b)).val :=
  (topK_at _ b 1 1 rfl).2

/-- A comparison of places' words, as a number. -/
theorem hot_eq (a b : Fin 8) :
    FloatOps.uitofp (F := Ideal) .f32 (IntOp.cmpi .eq (BitVec.ofNat 32 a.val) (BitVec.ofNat 32 b.val)) = if a = b then (1 : EReal) else 0 := by
  have e : IntOp.cmpi .eq (BitVec.ofNat 32 a.val) (BitVec.ofNat 32 b.val) = if a = b then 1#1 else 0#1 := by
    have := select_word a b (1#1) (0#1)
    rw [← this]
    generalize IntOp.cmpi .eq (BitVec.ofNat 32 a.val) (BitVec.ofNat 32 b.val) = z
    revert z; decide
  rw [e]
  split
  · show (((1#1 : BitVec 1).toNat : ℝ) : EReal) = 1
    norm_num
  · show (((0#1 : BitVec 1).toNat : ℝ) : EReal) = 0
    norm_num

/-- The weights are the gate. -/
theorem weights_eq (b : Fin 16) (hf : ∀ p, Finite (logits x0 x3 x4 b p)) (p : Fin 8) :
    val_main_v22 (F := Ideal) x0 x3 x4 (ix2 b p) = gate (logits x0 x3 x4 b) p := by
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_cst_1, val_main_cst_2,
    val_main_cst_3, val_main_cst_4, val_main_call0_v0, val_main_call0_v1, val_main_call0_v2, val_main_call0_v3, val_main_call0_v4]
  have hM : max (Ideal.ofBits .f32 0xFF800000#32) ((Finset.univ : Finset (Fin 2)).fold max (Ideal.ofBits .f32 0xFF800000#32)
      (fun j => val_main_values (F := Ideal) x0 x3 x4 (ix2 b j))) = logits x0 x3 x4 b (top (logits x0 x3 x4 b)) := by
    rw [ofBits_neg_inf, fold_max_eq _ 0 (fun j => ?_), values_0, max_eq_right bot_le]
    match j with
    | 0 => exact le_refl _
    | 1 => show val_main_values (F := Ideal) x0 x3 x4 (ix2 b 1) ≤ val_main_values (F := Ideal) x0 x3 x4 (ix2 b 0)
           rw [values_0, values_1]; exact le_top _ _
  have h0 := softmax_top hf _ hM
  have h1 := softmax_snd hf _ hM
  generalize max (Ideal.ofBits .f32 0xFF800000#32) _ = M at h0 h1 ⊢
  rw [Fin.sum_univ_two, Fin.sum_univ_two, values_0, values_1, indices_0, indices_1, hot_eq, hot_eq, h0, h1, gate]
  simp only [ite_mul, one_mul, zero_mul]

/-- The result. -/
theorem result_eq (b : Fin 16) (hf : ∀ p, Finite (logits x0 x3 x4 b p)) (n : Fin 4096) (d : Fin 64) :
    val_main_v33 (F := Ideal) x0 x1 x2 x3 x4 (ix3 b n d)
      = x0 (ix3 b n d) + ∑ p : Fin 8, ((∑ c : Fin 64, x1 (ix3 p c d) * x0 (ix3 b n c)) + x2 (ix2 p d)) * gate (logits x0 x3 x4 b) p := by
  pointwise [val_main_v33, val_main_v32, val_main_v31, val_main_v30, val_main_v29, val_main_v28, val_main_v27, val_main_v26, val_main_v25,
    val_main_v24, val_main_v23, val_main_cst_5]
  simp only [weights_eq x0 x3 x4 b hf]

end

end Cert.ReferenceIdeal.Hand

end
-- ==== Proof.Inputs.lean ====
/- What the claim assumes of the inputs, read at an entry: each value that its comparison bounds is a real number. And the
   two constants by which the kernel and the reference take the average. -/
module

public import proofs.«01_k».proof.Pre_finite_inputs
public import proofs.«01_k».proof.Proof.Weights

@[expose] public section

noncomputable section

namespace Cert.Pre_finite_inputs

/-- The side conditions of the assumption's operations. -/
theorem facts : Facts where
  bcast_S_S16x4096x64 := ⟨fun i => i.elim0, fun i => i.elim0⟩
  bcast_S_S8x64x64 := ⟨fun i => i.elim0, fun i => i.elim0⟩
  bcast_S_S64x8 := ⟨fun i => i.elim0, fun i => i.elim0⟩
  bcast_S_S8 := ⟨fun i => i.elim0, fun i => i.elim0⟩

end Cert.Pre_finite_inputs

namespace Cert.TopTwo

open Idealize.ShloMosaic

/-- The pattern of plus infinity. -/
theorem ofBits_inf : Ideal.ofBits .f32 0x7F800000#32 = ⊤ := by simp [Ideal.ofBits, Ideal.ieee]

/-- The pattern of 4096. -/
theorem ofBits_count : Ideal.ofBits .f32 0x45800000#32 = ((4096 : ℝ) : EReal) := by
  simp [Ideal.ofBits, Ideal.ieee, -EReal.coe_mul]; norm_num

/-- The pattern of 1 / 4096. -/
theorem ofBits_share : Ideal.ofBits .f32 0x39800000#32 = ((1 / 4096 : ℝ) : EReal) := by
  simp [Ideal.ofBits, Ideal.ieee, -EReal.coe_mul]; norm_num

/-- Dividing by 4096 is multiplying by its reciprocal. -/
theorem div_count (x : EReal) : Ideal.div x (Ideal.ofBits .f32 0x45800000#32) = x * Ideal.ofBits .f32 0x39800000#32 := by
  rw [ofBits_count, ofBits_share, Ideal.div_coe (by norm_num)]

theorem finite_share : Finite (Ideal.ofBits .f32 0x39800000#32) := ⟨_, ofBits_share⟩

/-- A value whose absolute value is below plus infinity is a real number. -/
theorem finite_of_abs {x : EReal} (h : max x (-x) < ⊤) : Finite x := by
  induction x with
  | bot => simp at h
  | top => simp at h
  | coe r => exact ⟨r, rfl⟩

/-- An array that the assumption bounds holds real numbers. -/
theorem finite_of_bound {s t : Shape} (x : FVec Ideal s .f32) (dims : Fin t.rank → Fin s.rank) (h : t.BroadcastsInDim s dims)
    (e : cmpf .olt (Host.absf x) (broadcastInDim s dims h (constant t .f32 0x7F800000#32 : FVec Ideal t .f32)) = fun _ => 1#1) (i : s.Idx) : Finite (x i) := by
  refine finite_of_abs ?_
  have h1 : BitVec.ofBool (decide (max (x i) (-(x i)) < Ideal.ofBits .f32 0x7F800000#32)) = 1#1 := congrFun e i
  rw [ofBits_inf] at h1
  by_contra hn
  rw [decide_eq_false hn] at h1
  exact absurd h1 (by decide)

end Cert.TopTwo

end
-- ==== Proof.Mix.lean ====
/- The equation of the two sides at one result element. The kernel forms the matrix `I + Σ_p g_p W_p` first and multiplies the
   state once; the reference multiplies by each primitive, adds its bias, and then weighs and sums. The weights are reals that
   are not negative, so weighing distributes over `product + bias` whatever the bias is. -/
module

public import proofs.«01_k».proof.Proof.Weights

@[expose] public section

noncomputable section

namespace Cert.TopTwo

open Idealize.ShloMosaic

/-- The equation over the reals, without the biases. -/
theorem mix_real (d : Fin 64) (u : Fin 64 → ℝ) (W : Fin 8 → Fin 64 → Fin 64 → ℝ) (g : Fin 8 → ℝ) :
    ∑ c : Fin 64, ((if c = d then 1 else 0) + ∑ p : Fin 8, g p * W p c d) * u c
      = u d + ∑ p : Fin 8, (∑ c : Fin 64, W p c d * u c) * g p := by
  simp only [add_mul, Finset.sum_add_distrib, ite_mul, one_mul, zero_mul, Finset.sum_ite_eq', Finset.mem_univ, if_true]
  congr 1
  simp only [Finset.sum_mul]
  rw [Finset.sum_comm]
  refine Finset.sum_congr rfl fun p _ => Finset.sum_congr rfl fun c _ => ?_
  ring

/-- The equation. -/
theorem mix (d : Fin 64) (u : Fin 64 → EReal) (W : Fin 8 → Fin 64 → Fin 64 → EReal) (g : Fin 8 → EReal) (b : Fin 8 → EReal)
    (hu : ∀ c, Finite (u c)) (hW : ∀ p c d, Finite (W p c d)) (hg : ∀ p, ∃ r : ℝ, 0 ≤ r ∧ g p = (r : EReal)) :
    (∑ c : Fin 64, ((if c = d then 1 else 0) + ∑ p : Fin 8, g p * W p c d) * u c) + ∑ p : Fin 8, g p * b p
      = u d + ∑ p : Fin 8, ((∑ c : Fin 64, W p c d * u c) + b p) * g p := by
  choose u' hu' using hu
  choose W' hW' using hW
  choose g' hg0 hg' using hg
  obtain rfl : u = fun c => (u' c : EReal) := funext hu'
  obtain rfl : W = fun p c d => (W' p c d : EReal) := funext fun p => funext fun c => funext fun d => hW' p c d
  obtain rfl : g = fun p => (g' p : EReal) := funext hg'
  have h1 : ∀ p, ((∑ c : Fin 64, (W' p c d : EReal) * (u' c : EReal)) + b p) * (g' p : EReal)
      = (((∑ c : Fin 64, W' p c d * u' c) * g' p : ℝ) : EReal) + (g' p : EReal) * b p := fun p => by
    rw [EReal.right_distrib_of_nonneg_of_ne_top (EReal.coe_nonneg.mpr (hg0 p)) (EReal.coe_ne_top _), EReal.coe_mul, coe_sum,
      mul_comm (b p)]
    simp only [EReal.coe_mul]
  have h2 : ∀ c, ((if c = d then 1 else 0) + ∑ p : Fin 8, (g' p : EReal) * (W' p c d : EReal)) * (u' c : EReal)
      = ((((if c = d then 1 else 0) + ∑ p : Fin 8, g' p * W' p c d) * u' c : ℝ) : EReal) := fun c => by
    rw [EReal.coe_mul, EReal.coe_add, coe_sum]
    simp only [EReal.coe_mul]
    congr 2
    split <;> simp
  simp only [h1, h2]
  rw [Finset.sum_add_distrib, ← add_assoc, ← coe_sum, ← coe_sum, ← EReal.coe_add, mix_real]

end Cert.TopTwo

end
-- ==== Proof.Equation.lean ====
/- The equation: from finite inputs, the array the kernel leaves, transposed, is what the reference computes. -/
module

public import proofs.«01_k».proof.Proof.ArrayVal
public import proofs.«01_k».proof.Proof.RefVal
public import proofs.«01_k».proof.Proof.Inputs
public import proofs.«01_k».proof.Proof.Mix

@[expose] public section

noncomputable section

namespace Cert.KernelIdeal.Hand

open Cert.KernelIdeal Cert.KernelIdeal.Gen
open Idealize.ShloMosaic Idealize.ShloMosaic.TcCoe Cert.TopTwo

variable (m : (ℓ : Loc nD τ sig) → Buf (Elt Ideal) ℓ) (c : Dev nD)

/-- The two average before the router alike: one divides the sum by 4096, the other multiplies it by 1 / 4096. -/
theorem logits_same (b : Fin 16) : Cert.ReferenceIdeal.Hand.logits (arg0 m c) (arg3 m c) (arg4 m c) b = logits m c b := by
  funext p
  rw [Cert.ReferenceIdeal.Hand.logits_eq]
  unfold logits
  refine congrArg (· + _) (Finset.sum_congr rfl fun d _ => ?_)
  rw [div_count, mul_comm]

/-- Finite inputs have finite logits. -/
theorem logits_finite (h0 : ∀ i, Finite (arg0 m c i)) (h3 : ∀ i, Finite (arg3 m c i)) (h4 : ∀ i, Finite (arg4 m c i)) (b : Fin 16)
    (p : Fin 8) : Finite (logits m c b p) :=
  .add (.sum _ fun _ => .mul (h3 _) (.mul (.sum _ fun _ => h0 _) finite_share)) (h4 _)

/-- The two results agree at an entry. -/
theorem equation_at (h0 : ∀ i, Finite (arg0 m c i)) (h1 : ∀ i, Finite (arg1 m c i)) (h3 : ∀ i, Finite (arg3 m c i))
    (h4 : ∀ i, Finite (arg4 m c i)) (b : Fin 16) (n : Fin 4096) (d : Fin 64) :
    transpose S16x4096x64 [0, 2, 1] (outArr m c) transposes_S16x64x4096_S16x4096x64_0_2_1 (ix3 b n d)
      = Cert.ReferenceIdeal.Read.val_main_v33 (F := Ideal) (arg0 m c) (arg1 m c) (arg2 m c) (arg3 m c) (arg4 m c) (ix3 b n d) := by
  have hf := logits_finite m c h0 h3 h4 b
  have hr := Cert.ReferenceIdeal.Hand.result_eq (arg0 m c) (arg1 m c) (arg2 m c) (arg3 m c) (arg4 m c) b
    (by rw [logits_same]; exact hf) n d
  rw [logits_same] at hr
  refine (result_at m c b hf n d).trans (Eq.trans ?_ hr.symm)
  exact mix d (fun e => arg0 m c (ix3 b n e)) (fun p e d => arg1 m c (ix3 p e d)) (gate (logits m c b))
    (fun p => arg2 m c (ix2 p d)) (fun _ => h0 _) (fun _ _ _ => h1 _) (gate_real hf)

/-- The kernel's result is the reference's. -/
theorem equation (h0 : ∀ i, Finite (arg0 m c i)) (h1 : ∀ i, Finite (arg1 m c i)) (h3 : ∀ i, Finite (arg3 m c i))
    (h4 : ∀ i, Finite (arg4 m c i)) :
    transpose S16x4096x64 [0, 2, 1] (outArr m c) transposes_S16x64x4096_S16x4096x64_0_2_1
      = Cert.ReferenceIdeal.Read.val_main_v33 (F := Ideal) (arg0 m c) (arg1 m c) (arg2 m c) (arg3 m c) (arg4 m c) := by
  refine funext fun y : S16x4096x64.Idx => ?_
  have hy : y = ix3 (y 0) (y 1) (y 2) := by
    funext a; match a with
    | ⟨0, _⟩ => rfl
    | ⟨1, _⟩ => rfl
    | ⟨2, _⟩ => rfl
  rw [hy]
  exact equation_at m c h0 h1 h3 h4 (y 0) (y 1) (y 2)

end Cert.KernelIdeal.Hand

end
-- ==== Proof.lean ====
/- The certificate: the frames of the kernel, of its ideal reading and of the reference, and the equation of the two. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launched
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Hand.frame m ρ

/-- The ideal kernel's frame, read off its run. -/
theorem frame_kernelIdeal : Cert.quiescent_KernelIdeal := fun m ρ _ =>
  (θ_run _ _ _).mono (fun _ h => ⟨fun c => (h.1 c).2, h.2⟩) (Cert.KernelIdeal.Hand.run_value (F := Ideal) m ρ)

/-- The reference's frame: it is a straight line of host operations and declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference end with equal results: at each device the shared value is what the reference computes
    of the kernel's arguments. -/
theorem algebraic : Cert.algebraic_KernelIdeal_ReferenceIdeal_pre_finite_inputs (hPre_finite_inputs := Cert.Pre_finite_inputs.facts) :=
  fun m g m' g' hpre hargs =>
    ⟨fun c => Cert.ReferenceIdeal.Value.res_main_v33 m' c,
      (θ_run _ _ _).mono (fun _ h c => ⟨((h.1 c).1.trans (Cert.KernelIdeal.Hand.equation m c
          (Cert.TopTwo.finite_of_bound _ _ _ (hpre c).1) (Cert.TopTwo.finite_of_bound _ _ _ (hpre c).2.1)
          (Cert.TopTwo.finite_of_bound _ _ _ (hpre c).2.2.1) (Cert.TopTwo.finite_of_bound _ _ _ (hpre c).2.2.2))).trans
          ((Cert.ReferenceIdeal.Read.val_main_v33_eq m' c).trans (by
            rw [(hargs c).1, (hargs c).2.1, (hargs c).2.2.1, (hargs c).2.2.2.1, (hargs c).2.2.2.2])).symm,
          (h.1 c).2⟩)
        (Cert.KernelIdeal.Hand.run_value (F := Ideal) m g),
      Cert.ReferenceIdeal.Value.run (F := Ideal) m' g'⟩

theorem claim : Cert.Claim :=
  ⟨Cert.Kernel.Gen.facts, Cert.KernelIdeal.Gen.facts, Cert.ReferenceIdeal.Gen.facts, Cert.Pre_finite_inputs.facts,
    frame_kernel, frame_kernelIdeal, fun m ρ _ => frame_kernelIdeal m ρ trivial,
    frame_reference, fun m ρ _ => frame_reference m ρ trivial, trivial, algebraic⟩

end Cert.Proof

end
